-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v535) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S2x2048x1024 : Shape := ⟨3, ![2, 2048, 1024]⟩
abbrev S4x4256x1024 : Shape := ⟨3, ![4, 4256, 1024]⟩
abbrev S4x2176x4 : Shape := ⟨3, ![4, 2176, 4]⟩
abbrev S4x2176 : Shape := ⟨2, ![4, 2176]⟩
abbrev S4x32 : Shape := ⟨2, ![4, 32]⟩
abbrev S4x2048 : Shape := ⟨2, ![4, 2048]⟩
abbrev S4x1024x2048 : Shape := ⟨3, ![4, 1024, 2048]⟩
abbrev S4x1024 : Shape := ⟨2, ![4, 1024]⟩
abbrev S_ : Shape := ⟨0, ![]⟩

class Facts : Prop where
  bcast_S_S4x4256x1024 : S_.BroadcastsInDim S4x4256x1024 (![] : Fin 0 → Fin S4x4256x1024.rank)
  bcast_S_S4x2176x4 : S_.BroadcastsInDim S4x2176x4 (![] : Fin 0 → Fin S4x2176x4.rank)
  bcast_S_S4x2176 : S_.BroadcastsInDim S4x2176 (![] : Fin 0 → Fin S4x2176.rank)
  bcast_S_S4x32 : S_.BroadcastsInDim S4x32 (![] : Fin 0 → Fin S4x32.rank)
  bcast_S_S4x1024 : S_.BroadcastsInDim S4x1024 (![] : Fin 0 → Fin S4x1024.rank)

variable [Facts]

def fn {F : FTy → Type} [FloatOps F] (main_arg0 : FVec F S2x2048x1024 .f32) (main_arg1 : FVec F S4x4256x1024 .f32) (main_arg2 : FVec F S4x2176x4 .f32) (main_arg3 : FVec F S4x2176 .f32) (main_arg4 : FVec F S4x32 .f32) (main_arg5 : FVec F S4x32 .f32) (main_arg6 : FVec F S4x32 .f32) (main_arg7 : FVec F S4x2048 .f32) (main_arg8 : FVec F S4x1024x2048 .f32) (main_arg9 : FVec F S4x1024 .f32) : IVec S4x4256x1024 1 × IVec S4x2176x4 1 × IVec S4x2176 1 × IVec S4x32 1 × IVec S4x1024 1 :=
  let main_v0 : FVec F S4x4256x1024 .f32 := Host.absf main_arg1
  let main_cst : FVec F S_ .f32 := constant S_ .f32 0x7F800000#32
  let main_v1 : FVec F S4x4256x1024 .f32 := broadcastInDim S4x4256x1024 ![] bcast_S_S4x4256x1024 main_cst
  let main_v2 : IVec S4x4256x1024 1 := cmpf .olt main_v0 main_v1
  let main_v3 : FVec F S4x2176x4 .f32 := Host.absf main_arg2
  let main_cst_0 : FVec F S_ .f32 := constant S_ .f32 0x7F800000#32
  let main_v4 : FVec F S4x2176x4 .f32 := broadcastInDim S4x2176x4 ![] bcast_S_S4x2176x4 main_cst_0
  let main_v5 : IVec S4x2176x4 1 := cmpf .olt main_v3 main_v4
  let main_v6 : FVec F S4x2176 .f32 := Host.absf main_arg3
  let main_cst_1 : FVec F S_ .f32 := constant S_ .f32 0x7F800000#32
  let main_v7 : FVec F S4x2176 .f32 := broadcastInDim S4x2176 ![] bcast_S_S4x2176 main_cst_1
  let main_v8 : IVec S4x2176 1 := cmpf .olt main_v6 main_v7
  let main_v9 : FVec F S4x32 .f32 := Host.absf main_arg4
  let main_cst_2 : FVec F S_ .f32 := constant S_ .f32 0x7F800000#32
  let main_v10 : FVec F S4x32 .f32 := broadcastInDim S4x32 ![] bcast_S_S4x32 main_cst_2
  let main_v11 : IVec S4x32 1 := cmpf .olt main_v9 main_v10
  let main_v12 : FVec F S4x1024 .f32 := Host.absf main_arg9
  let main_cst_3 : FVec F S_ .f32 := constant S_ .f32 0x7F800000#32
  let main_v13 : FVec F S4x1024 .f32 := broadcastInDim S4x1024 ![] bcast_S_S4x1024 main_cst_3
  let main_v14 : IVec S4x1024 1 := cmpf .olt main_v12 main_v13
  (main_v2, main_v5, main_v8, main_v11, main_v14)
-- ==== Kernel.lean ====
abbrev S2x2048x1024 : Shape := ⟨3, ![2, 2048, 1024]⟩
abbrev S4x4256x1024 : Shape := ⟨3, ![4, 4256, 1024]⟩
abbrev S4x2176x4 : Shape := ⟨3, ![4, 2176, 4]⟩
abbrev S4x2176 : Shape := ⟨2, ![4, 2176]⟩
abbrev S4x32 : Shape := ⟨2, ![4, 32]⟩
abbrev S4x2048 : Shape := ⟨2, ![4, 2048]⟩
abbrev S4x1024x2048 : Shape := ⟨3, ![4, 1024, 2048]⟩
abbrev S4x1024 : Shape := ⟨2, ![4, 1024]⟩
abbrev S4x1024x4256 : Shape := ⟨3, ![4, 1024, 4256]⟩
abbrev S4x2048x1024 : Shape := ⟨3, ![4, 2048, 1024]⟩
abbrev S4x4x2176 : Shape := ⟨3, ![4, 4, 2176]⟩
abbrev S4x1x2176 : Shape := ⟨3, ![4, 1, 2176]⟩
abbrev S4x1x32 : Shape := ⟨3, ![4, 1, 32]⟩
abbrev S4x32x64 : Shape := ⟨3, ![4, 32, 64]⟩
abbrev S4x1x2048 : Shape := ⟨3, ![4, 1, 2048]⟩
abbrev S4x1x1024 : Shape := ⟨3, ![4, 1, 1024]⟩
abbrev S32x32 : Shape := ⟨2, ![32, 32]⟩
abbrev S_ : Shape := ⟨0, ![]⟩
abbrev S32x32x64 : Shape := ⟨3, ![32, 32, 64]⟩
abbrev S32x2048 : Shape := ⟨2, ![32, 2048]⟩
abbrev S1x256x1024 : Shape := ⟨3, ![1, 256, 1024]⟩
abbrev S1x1024x4256 : Shape := ⟨3, ![1, 1024, 4256]⟩
abbrev S1x4x2176 : Shape := ⟨3, ![1, 4, 2176]⟩
abbrev S1x1x2176 : Shape := ⟨3, ![1, 1, 2176]⟩
abbrev S1x1x32 : Shape := ⟨3, ![1, 1, 32]⟩
abbrev S1x1x2048 : Shape := ⟨3, ![1, 1, 2048]⟩
abbrev S1x2048x1024 : Shape := ⟨3, ![1, 2048, 1024]⟩
abbrev S1x1x1024 : Shape := ⟨3, ![1, 1, 1024]⟩
abbrev S2048x1024 : Shape := ⟨2, ![2048, 1024]⟩
abbrev S64x2048 : Shape := ⟨2, ![64, 2048]⟩
abbrev S8x2176 : Shape := ⟨2, ![8, 2176]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1024x4256 : Shape := ⟨2, ![1024, 4256]⟩
abbrev S256x4256 : Shape := ⟨2, ![256, 4256]⟩
abbrev S256x2176 : Shape := ⟨2, ![256, 2176]⟩
abbrev S256x32 : Shape := ⟨2, ![256, 32]⟩
abbrev S1x2176 : Shape := ⟨2, ![1, 2176]⟩
abbrev S248x2176 : Shape := ⟨2, ![248, 2176]⟩
abbrev S256x64 : Shape := ⟨2, ![256, 64]⟩
abbrev S1x32 : Shape := ⟨2, ![1, 32]⟩
abbrev S32x256 : Shape := ⟨2, ![32, 256]⟩
abbrev S128x128 : Shape := ⟨2, ![128, 128]⟩
abbrev S32x128 : Shape := ⟨2, ![32, 128]⟩
abbrev S128x32 : Shape := ⟨2, ![128, 32]⟩
abbrev S128x2048 : Shape := ⟨2, ![128, 2048]⟩
abbrev S1x2048 : Shape := ⟨2, ![1, 2048]⟩
abbrev S128x64 : Shape := ⟨2, ![128, 64]⟩
abbrev S128x1 : Shape := ⟨2, ![128, 1]⟩
abbrev S1x128 : Shape := ⟨2, ![1, 128]⟩
abbrev S128 : Shape := ⟨1, ![128]⟩
abbrev S128x1024 : Shape := ⟨2, ![128, 1024]⟩
abbrev S1x128x1024 : Shape := ⟨3, ![1, 128, 1024]⟩

abbrev nBuf : Space → Nat
  | .hbm => 34
  | .vmem => 27
  | .smem => 0
  | _ => 0

abbrev bufTy : (tb : Table) → Fin (tcTables nBuf tb) → BufTy
  | .hbm, ⟨0, _⟩ => ⟨S2x2048x1024, .f32⟩
  | .hbm, ⟨1, _⟩ => ⟨S4x4256x1024, .f32⟩
  | .hbm, ⟨2, _⟩ => ⟨S4x2176x4, .f32⟩
  | .hbm, ⟨3, _⟩ => ⟨S4x2176, .f32⟩
  | .hbm, ⟨4, _⟩ => ⟨S4x32, .f32⟩
  | .hbm, ⟨5, _⟩ => ⟨S4x32, .f32⟩
  | .hbm, ⟨6, _⟩ => ⟨S4x32, .f32⟩
  | .hbm, ⟨7, _⟩ => ⟨S4x2048, .f32⟩
  | .hbm, ⟨8, _⟩ => ⟨S4x1024x2048, .f32⟩
  | .hbm, ⟨9, _⟩ => ⟨S4x1024, .f32⟩
  | .hbm, ⟨10, _⟩ => ⟨S4x1024x4256, .f32⟩
  | .hbm, ⟨11, _⟩ => ⟨S4x1024x4256, .bf16⟩
  | .hbm, ⟨12, _⟩ => ⟨S4x2048x1024, .f32⟩
  | .hbm, ⟨13, _⟩ => ⟨S4x2048x1024, .bf16⟩
  | .hbm, ⟨14, _⟩ => ⟨S4x4x2176, .f32⟩
  | .hbm, ⟨15, _⟩ => ⟨S4x1x2176, .f32⟩
  | .hbm, ⟨16, _⟩ => ⟨S4x1x32, .f32⟩
  | .hbm, ⟨17, _⟩ => ⟨S4x1x32, .f32⟩
  | .hbm, ⟨18, _⟩ => ⟨S4x32x64, .f32⟩
  | .hbm, ⟨19, _⟩ => ⟨S4x2048, .f32⟩
  | .hbm, ⟨20, _⟩ => ⟨S4x1x2048, .f32⟩
  | .hbm, ⟨21, _⟩ => ⟨S4x1x2048, .f32⟩
  | .hbm, ⟨22, _⟩ => ⟨S4x1x1024, .f32⟩
  | .hbm, ⟨23, _⟩ => ⟨S32x32, .i32⟩
  | .hbm, ⟨24, _⟩ => ⟨S32x32, .i32⟩
  | .hbm, ⟨25, _⟩ => ⟨S_, .i32⟩
  | .hbm, ⟨26, _⟩ => ⟨S32x32, .i32⟩
  | .hbm, ⟨27, _⟩ => ⟨S32x32, .i32⟩
  | .hbm, ⟨28, _⟩ => ⟨S32x32, .i1⟩
  | .hbm, ⟨29, _⟩ => ⟨S32x32, .f32⟩
  | .hbm, ⟨30, _⟩ => ⟨S32x32x64, .f32⟩
  | .hbm, ⟨31, _⟩ => ⟨S32x2048, .f32⟩
  | .hbm, ⟨32, _⟩ => ⟨S32x2048, .bf16⟩
  | .hbm, ⟨33, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x4256, .bf16⟩
  | .local _ .vmem, ⟨3, _⟩ => ⟨S1x1024x4256, .bf16⟩
  | .local _ .vmem, ⟨4, _⟩ => ⟨S1x4x2176, .f32⟩
  | .local _ .vmem, ⟨5, _⟩ => ⟨S1x4x2176, .f32⟩
  | .local _ .vmem, ⟨6, _⟩ => ⟨S1x1x2176, .f32⟩
  | .local _ .vmem, ⟨7, _⟩ => ⟨S1x1x2176, .f32⟩
  | .local _ .vmem, ⟨8, _⟩ => ⟨S1x1x32, .f32⟩
  | .local _ .vmem, ⟨9, _⟩ => ⟨S1x1x32, .f32⟩
  | .local _ .vmem, ⟨10, _⟩ => ⟨S1x1x32, .f32⟩
  | .local _ .vmem, ⟨11, _⟩ => ⟨S1x1x32, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x2048x1024, .bf16⟩
  | .local _ .vmem, ⟨17, _⟩ => ⟨S1x2048x1024, .bf16⟩
  | .local _ .vmem, ⟨18, _⟩ => ⟨S1x1x1024, .f32⟩
  | .local _ .vmem, ⟨19, _⟩ => ⟨S1x1x1024, .f32⟩
  | .local _ .vmem, ⟨20, _⟩ => ⟨S32x2048, .bf16⟩
  | .local _ .vmem, ⟨21, _⟩ => ⟨S1x256x1024, .f32⟩
  | .local _ .vmem, ⟨22, _⟩ => ⟨S1x256x1024, .f32⟩
  | .local _ .vmem, ⟨23, _⟩ => ⟨S2048x1024, .f32⟩
  | .local _ .vmem, ⟨24, _⟩ => ⟨S64x2048, .f32⟩
  | .local _ .vmem, ⟨25, _⟩ => ⟨S8x2176, .f32⟩
  | .local _ .vmem, ⟨26, _⟩ => ⟨S256x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_c : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_v0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_off1 (i : grid0.Coords) : Fin 2 → Nat :=
  let arg2 : BitVec 32 := BitVec.ofNat 32 (i 2).val
  let c256_i32_371 : BitVec 32 := 256#32
  let v1338 : BitVec 32 := Scalar.muli arg2 c256_i32_371
  let v1339 : Index := Scalar.indexCast v1338
  let c0_372 : Index := 0#32
  ![v1339.toNat, 0]
def k0_off2 (i : grid0.Coords) : Fin 2 → Nat :=
  let arg2 : BitVec 32 := BitVec.ofNat 32 (i 2).val
  let c256_i32 : BitVec 32 := 256#32
  let v6 : BitVec 32 := Scalar.muli arg2 c256_i32
  let v7 : Index := Scalar.indexCast v6
  let c0 : Index := 0#32
  ![v7.toNat, 0]
def k0_off3 (i : grid0.Coords) (c0_i32_183 : BitVec 32) : Fin 2 → Nat :=
  let arg2 : BitVec 32 := BitVec.ofNat 32 (i 2).val
  let c256_i32_182 : BitVec 32 := 256#32
  let v730 : BitVec 32 := Scalar.muli arg2 c256_i32_182
  let v731 : BitVec 32 := Scalar.addi v730 c0_i32_183
  let v732 : Index := Scalar.indexCast v731
  let c0_184 : Index := 0#32
  ![v732.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  let c0_i32_2 : BitVec 32 := 0#32
  ![arg0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x4256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x4x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 1 → Memref sig .tc .vmem S32x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, true]
-- ==== ReferenceIdeal.lean ====
abbrev S2x2048x1024 : Shape := ⟨3, ![2, 2048, 1024]⟩
abbrev S4x4256x1024 : Shape := ⟨3, ![4, 4256, 1024]⟩
abbrev S4x2176x4 : Shape := ⟨3, ![4, 2176, 4]⟩
abbrev S4x2176 : Shape := ⟨2, ![4, 2176]⟩
abbrev S4x32 : Shape := ⟨2, ![4, 32]⟩
abbrev S4x2048 : Shape := ⟨2, ![4, 2048]⟩
abbrev S4x1024x2048 : Shape := ⟨3, ![4, 1024, 2048]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x4256x1024 : Shape := ⟨3, ![1, 4256, 1024]⟩
abbrev S4256x1024 : Shape := ⟨2, ![4256, 1024]⟩
abbrev S1x2176x4 : Shape := ⟨3, ![1, 2176, 4]⟩
abbrev S2176x4 : Shape := ⟨2, ![2176, 4]⟩
abbrev S1x2176 : Shape := ⟨2, ![1, 2176]⟩
abbrev S2176 : Shape := ⟨1, ![2176]⟩
abbrev S1x32 : Shape := ⟨2, ![1, 32]⟩
abbrev S32 : Shape := ⟨1, ![32]⟩
abbrev S1x2048 : Shape := ⟨2, ![1, 2048]⟩
abbrev S2048 : Shape := ⟨1, ![2048]⟩
abbrev S1x1024x2048 : Shape := ⟨3, ![1, 1024, 2048]⟩
abbrev S1024x2048 : Shape := ⟨2, ![1024, 2048]⟩
abbrev S2x2048x4256 : Shape := ⟨3, ![2, 2048, 4256]⟩
abbrev S2x2048x2048 : Shape := ⟨3, ![2, 2048, 2048]⟩
abbrev S2x2048x2176 : Shape := ⟨3, ![2, 2048, 2176]⟩
abbrev S2x2048x32 : Shape := ⟨3, ![2, 2048, 32]⟩
abbrev S2x2051x2176 : Shape := ⟨3, ![2, 2051, 2176]⟩
abbrev S2176x1 : Shape := ⟨2, ![2176, 1]⟩
abbrev S1x1x2176 : Shape := ⟨3, ![1, 1, 2176]⟩
abbrev S2x2048x64 : Shape := ⟨3, ![2, 2048, 64]⟩
abbrev S1x1x32 : Shape := ⟨3, ![1, 1, 32]⟩
abbrev S2x2048x32x64 : Shape := ⟨4, ![2, 2048, 32, 64]⟩
abbrev S2x2048x32x1 : Shape := ⟨4, ![2, 2048, 32, 1]⟩
abbrev S2x32x2048 : Shape := ⟨3, ![2, 32, 2048]⟩
abbrev S2x32x2048x1 : Shape := ⟨4, ![2, 32, 2048, 1]⟩
abbrev S2x32x1x2048 : Shape := ⟨4, ![2, 32, 1, 2048]⟩
abbrev S2x32x2048x2048 : Shape := ⟨4, ![2, 32, 2048, 2048]⟩
abbrev S2048x2048 : Shape := ⟨2, ![2048, 2048]⟩
abbrev S2x1x2048x2048 : Shape := ⟨4, ![2, 1, 2048, 2048]⟩
abbrev S2x32x64x2048 : Shape := ⟨4, ![2, 32, 64, 2048]⟩
abbrev S1x1x32x1 : Shape := ⟨4, ![1, 1, 32, 1]⟩
abbrev S1x1x2048 : Shape := ⟨3, ![1, 1, 2048]⟩

abbrev nBuf : Space → Nat
  | .hbm => 706
  | .vmem => 0
  | .smem => 0
  | _ => 0

abbrev hbmTy0_0 (i : Nat) : BufTy := match i % 128 with
  | 0 => ⟨S2x2048x1024, .f32⟩
  | 1 => ⟨S4x4256x1024, .f32⟩
  | 2 => ⟨S4x2176x4, .f32⟩
  | 3 => ⟨S4x2176, .f32⟩
  | 4 => ⟨S4x32, .f32⟩
  | 5 => ⟨S4x32, .f32⟩
  | 6 => ⟨S4x32, .f32⟩
  | 7 => ⟨S4x2048, .f32⟩
  | 8 => ⟨S4x1024x2048, .f32⟩
  | 9 => ⟨S4x1024, .f32⟩
  | 10 => ⟨S1x1024, .f32⟩
  | 11 => ⟨S1024, .f32⟩
  | 12 => ⟨S2x2048x1024, .f32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S_, .f32⟩
  | 20 => ⟨S2x2048x1, .f32⟩
  | 21 => ⟨S2x2048x1, .f32⟩
  | 22 => ⟨S2x2048x1, .f32⟩
  | 23 => ⟨S2x2048x1024, .f32⟩
  | 24 => ⟨S2x2048x1024, .f32⟩
  | 25 => ⟨S1x1x1024, .f32⟩
  | 26 => ⟨S2x2048x1024, .f32⟩
  | 27 => ⟨S2x2048x1024, .f32⟩
  | 28 => ⟨S1x4256x1024, .f32⟩
  | 29 => ⟨S4256x1024, .f32⟩
  | 30 => ⟨S1x2176x4, .f32⟩
  | 31 => ⟨S2176x4, .f32⟩
  | 32 => ⟨S1x2176, .f32⟩
  | 33 => ⟨S2176, .f32⟩
  | 34 => ⟨S1x32, .f32⟩
  | 35 => ⟨S32, .f32⟩
  | 36 => ⟨S1x32, .f32⟩
  | 37 => ⟨S32, .f32⟩
  | 38 => ⟨S1x32, .f32⟩
  | 39 => ⟨S32, .f32⟩
  | 40 => ⟨S1x2048, .f32⟩
  | 41 => ⟨S2048, .f32⟩
  | 42 => ⟨S1x1024x2048, .f32⟩
  | 43 => ⟨S1024x2048, .f32⟩
  | 44 => ⟨S2x2048x4256, .f32⟩
  | 45 => ⟨S2x2048x2048, .f32⟩
  | 46 => ⟨S2x2048x2176, .f32⟩
  | 47 => ⟨S2x2048x32, .f32⟩
  | 48 => ⟨S_, .i32⟩
  | 49 => ⟨S_, .f32⟩
  | 50 => ⟨S2x2051x2176, .f32⟩
  | 51 => ⟨S2x2048x2176, .f32⟩
  | 52 => ⟨S2176x1, .f32⟩
  | 53 => ⟨S2176, .f32⟩
  | 54 => ⟨S1x1x2176, .f32⟩
  | 55 => ⟨S2x2048x2176, .f32⟩
  | 56 => ⟨S2x2048x2176, .f32⟩
  | 57 => ⟨S1x1x2176, .f32⟩
  | 58 => ⟨S2x2048x2176, .f32⟩
  | 59 => ⟨S2x2048x2176, .f32⟩
  | 60 => ⟨S2x2048x2176, .f32⟩
  | 61 => ⟨S2176x1, .f32⟩
  | 62 => ⟨S2176, .f32⟩
  | 63 => ⟨S1x1x2176, .f32⟩
  | 64 => ⟨S2x2048x2176, .f32⟩
  | 65 => ⟨S2x2048x2176, .f32⟩
  | 66 => ⟨S2x2048x2176, .f32⟩
  | 67 => ⟨S2x2048x2176, .f32⟩
  | 68 => ⟨S2176x1, .f32⟩
  | 69 => ⟨S2176, .f32⟩
  | 70 => ⟨S1x1x2176, .f32⟩
  | 71 => ⟨S2x2048x2176, .f32⟩
  | 72 => ⟨S2x2048x2176, .f32⟩
  | 73 => ⟨S2x2048x2176, .f32⟩
  | 74 => ⟨S2x2048x2176, .f32⟩
  | 75 => ⟨S2176x1, .f32⟩
  | 76 => ⟨S2176, .f32⟩
  | 77 => ⟨S1x1x2176, .f32⟩
  | 78 => ⟨S2x2048x2176, .f32⟩
  | 79 => ⟨S2x2048x2176, .f32⟩
  | 80 => ⟨S2x2048x2176, .f32⟩
  | 81 => ⟨S2x2048x2176, .f32⟩
  | 82 => ⟨S2x2048x2176, .f32⟩
  | 83 => ⟨S_, .f32⟩
  | 84 => ⟨S2x2048x2176, .f32⟩
  | 85 => ⟨S2x2048x2176, .f32⟩
  | 86 => ⟨S_, .f32⟩
  | 87 => ⟨S2x2048x2176, .f32⟩
  | 88 => ⟨S2x2048x2176, .f32⟩
  | 89 => ⟨S2x2048x2176, .f32⟩
  | 90 => ⟨S2x2048x2048, .f32⟩
  | 91 => ⟨S2x2048x64, .f32⟩
  | 92 => ⟨S2x2048x64, .f32⟩
  | 93 => ⟨S1x1x32, .f32⟩
  | 94 => ⟨S2x2048x32, .f32⟩
  | 95 => ⟨S2x2048x32, .f32⟩
  | 96 => ⟨S_, .f32⟩
  | 97 => ⟨S2x2048x32, .f32⟩
  | 98 => ⟨S2x2048x32, .f32⟩
  | 99 => ⟨S2x2048x32, .f32⟩
  | 100 => ⟨S2x2048x32, .f32⟩
  | 101 => ⟨S2x2048x32, .i1⟩
  | 102 => ⟨S2x2048x32, .f32⟩
  | 103 => ⟨S2x2048x32, .f32⟩
  | 104 => ⟨S2x2048x32, .f32⟩
  | 105 => ⟨S2x2048x32, .f32⟩
  | 106 => ⟨S2x2048x32, .f32⟩
  | 107 => ⟨S2x2048x32, .f32⟩
  | 108 => ⟨S2x2048x32, .f32⟩
  | 109 => ⟨S2x2048x32, .f32⟩
  | 110 => ⟨S32, .f32⟩
  | 111 => ⟨S32, .f32⟩
  | 112 => ⟨S2x2048x32x64, .f32⟩
  | 113 => ⟨S2x2048x32x1, .f32⟩
  | 114 => ⟨S2x2048x32x64, .f32⟩
  | 115 => ⟨S2x2048x32x64, .f32⟩
  | 116 => ⟨S1x1x32, .f32⟩
  | 117 => ⟨S2x2048x32, .f32⟩
  | 118 => ⟨S2x2048x32, .f32⟩
  | 119 => ⟨S2x32x2048, .f32⟩
  | 120 => ⟨S_, .f32⟩
  | 121 => ⟨S_, .f32⟩
  | 122 => ⟨S2x32x2048, .f32⟩
  | 123 => ⟨S2x32x2048x1, .f32⟩
  | 124 => ⟨S2x32x1x2048, .f32⟩
  | 125 => ⟨S2x32x2048x2048, .f32⟩
  | 126 => ⟨S2x32x2048x2048, .f32⟩
  | 127 => ⟨S2x32x2048x2048, .f32⟩
  | _ => ⟨S2x2048x1024, .f32⟩

abbrev hbmTy0_1 (i : Nat) : BufTy := match i % 128 with
  | 0 => ⟨S_, .i1⟩
  | 1 => ⟨S2048x2048, .i1⟩
  | 2 => ⟨S2048x2048, .i32⟩
  | 3 => ⟨S_, .i32⟩
  | 4 => ⟨S2048x2048, .i32⟩
  | 5 => ⟨S2048x2048, .i32⟩
  | 6 => ⟨S2048x2048, .i32⟩
  | 7 => ⟨S2048x2048, .i1⟩
  | 8 => ⟨S_, .i1⟩
  | 9 => ⟨S2048x2048, .i1⟩
  | 10 => ⟨S2048x2048, .i1⟩
  | 11 => ⟨S_, .f32⟩
  | 12 => ⟨S_, .f32⟩
  | 13 => ⟨S2x32x2048x2048, .i1⟩
  | 14 => ⟨S2x32x2048x2048, .f32⟩
  | 15 => ⟨S2x32x2048x2048, .f32⟩
  | 16 => ⟨S2x32x2048x2048, .f32⟩
  | 17 => ⟨S2x2048x2048, .f32⟩
  | 18 => ⟨S2x1x2048x2048, .f32⟩
  | 19 => ⟨S2x32x2048x2048, .f32⟩
  | 20 => ⟨S2x32x2048x2048, .f32⟩
  | 21 => ⟨S2x32x64x2048, .f32⟩
  | 22 => ⟨S2x2048x32x64, .f32⟩
  | 23 => ⟨S1x1x32x1, .f32⟩
  | 24 => ⟨S2x2048x32x64, .f32⟩
  | 25 => ⟨S2x2048x32x64, .f32⟩
  | 26 => ⟨S2x2048x32x64, .f32⟩
  | 27 => ⟨S2x2048x2048, .f32⟩
  | 28 => ⟨S2x2048x2048, .f32⟩
  | 29 => ⟨S2x2048x2048, .f32⟩
  | 30 => ⟨S_, .f32⟩
  | 31 => ⟨S2x2048x2048, .f32⟩
  | 32 => ⟨S2x2048x2048, .f32⟩
  | 33 => ⟨S_, .f32⟩
  | 34 => ⟨S2x2048x2048, .f32⟩
  | 35 => ⟨S2x2048x2048, .f32⟩
  | 36 => ⟨S2x2048x2048, .f32⟩
  | 37 => ⟨S2x2048x2048, .f32⟩
  | 38 => ⟨S2x2048x2048, .f32⟩
  | 39 => ⟨S_, .f32⟩
  | 40 => ⟨S2x2048, .f32⟩
  | 41 => ⟨S2x2048x1, .f32⟩
  | 42 => ⟨S_, .f32⟩
  | 43 => ⟨S2x2048x1, .f32⟩
  | 44 => ⟨S2x2048x1, .f32⟩
  | 45 => ⟨S_, .f32⟩
  | 46 => ⟨S2x2048x1, .f32⟩
  | 47 => ⟨S2x2048x1, .f32⟩
  | 48 => ⟨S2x2048x1, .f32⟩
  | 49 => ⟨S2x2048x2048, .f32⟩
  | 50 => ⟨S2x2048x2048, .f32⟩
  | 51 => ⟨S1x1x2048, .f32⟩
  | 52 => ⟨S2x2048x2048, .f32⟩
  | 53 => ⟨S2x2048x2048, .f32⟩
  | 54 => ⟨S2x2048x1024, .f32⟩
  | 55 => ⟨S2x2048x1024, .f32⟩
  | 56 => ⟨S1x1024, .f32⟩
  | 57 => ⟨S1024, .f32⟩
  | 58 => ⟨S2x2048x1024, .f32⟩
  | 59 => ⟨S_, .f32⟩
  | 60 => ⟨S2x2048, .f32⟩
  | 61 => ⟨S2x2048x1, .f32⟩
  | 62 => ⟨S_, .f32⟩
  | 63 => ⟨S2x2048x1, .f32⟩
  | 64 => ⟨S2x2048x1, .f32⟩
  | 65 => ⟨S_, .f32⟩
  | 66 => ⟨S2x2048x1, .f32⟩
  | 67 => ⟨S2x2048x1, .f32⟩
  | 68 => ⟨S2x2048x1, .f32⟩
  | 69 => ⟨S2x2048x1024, .f32⟩
  | 70 => ⟨S2x2048x1024, .f32⟩
  | 71 => ⟨S1x1x1024, .f32⟩
  | 72 => ⟨S2x2048x1024, .f32⟩
  | 73 => ⟨S2x2048x1024, .f32⟩
  | 74 => ⟨S1x4256x1024, .f32⟩
  | 75 => ⟨S4256x1024, .f32⟩
  | 76 => ⟨S1x2176x4, .f32⟩
  | 77 => ⟨S2176x4, .f32⟩
  | 78 => ⟨S1x2176, .f32⟩
  | 79 => ⟨S2176, .f32⟩
  | 80 => ⟨S1x32, .f32⟩
  | 81 => ⟨S32, .f32⟩
  | 82 => ⟨S1x32, .f32⟩
  | 83 => ⟨S32, .f32⟩
  | 84 => ⟨S1x32, .f32⟩
  | 85 => ⟨S32, .f32⟩
  | 86 => ⟨S1x2048, .f32⟩
  | 87 => ⟨S2048, .f32⟩
  | 88 => ⟨S1x1024x2048, .f32⟩
  | 89 => ⟨S1024x2048, .f32⟩
  | 90 => ⟨S2x2048x4256, .f32⟩
  | 91 => ⟨S2x2048x2048, .f32⟩
  | 92 => ⟨S2x2048x2176, .f32⟩
  | 93 => ⟨S2x2048x32, .f32⟩
  | 94 => ⟨S_, .i32⟩
  | 95 => ⟨S_, .f32⟩
  | 96 => ⟨S2x2051x2176, .f32⟩
  | 97 => ⟨S2x2048x2176, .f32⟩
  | 98 => ⟨S2176x1, .f32⟩
  | 99 => ⟨S2176, .f32⟩
  | 100 => ⟨S1x1x2176, .f32⟩
  | 101 => ⟨S2x2048x2176, .f32⟩
  | 102 => ⟨S2x2048x2176, .f32⟩
  | 103 => ⟨S1x1x2176, .f32⟩
  | 104 => ⟨S2x2048x2176, .f32⟩
  | 105 => ⟨S2x2048x2176, .f32⟩
  | 106 => ⟨S2x2048x2176, .f32⟩
  | 107 => ⟨S2176x1, .f32⟩
  | 108 => ⟨S2176, .f32⟩
  | 109 => ⟨S1x1x2176, .f32⟩
  | 110 => ⟨S2x2048x2176, .f32⟩
  | 111 => ⟨S2x2048x2176, .f32⟩
  | 112 => ⟨S2x2048x2176, .f32⟩
  | 113 => ⟨S2x2048x2176, .f32⟩
  | 114 => ⟨S2176x1, .f32⟩
  | 115 => ⟨S2176, .f32⟩
  | 116 => ⟨S1x1x2176, .f32⟩
  | 117 => ⟨S2x2048x2176, .f32⟩
  | 118 => ⟨S2x2048x2176, .f32⟩
  | 119 => ⟨S2x2048x2176, .f32⟩
  | 120 => ⟨S2x2048x2176, .f32⟩
  | 121 => ⟨S2176x1, .f32⟩
  | 122 => ⟨S2176, .f32⟩
  | 123 => ⟨S1x1x2176, .f32⟩
  | 124 => ⟨S2x2048x2176, .f32⟩
  | 125 => ⟨S2x2048x2176, .f32⟩
  | 126 => ⟨S2x2048x2176, .f32⟩
  | 127 => ⟨S2x2048x2176, .f32⟩
  | _ => ⟨S2x2048x1024, .f32⟩

abbrev hbmTy0_2 (i : Nat) : BufTy := match i % 128 with
  | 0 => ⟨S2x2048x2176, .f32⟩
  | 1 => ⟨S_, .f32⟩
  | 2 => ⟨S2x2048x2176, .f32⟩
  | 3 => ⟨S2x2048x2176, .f32⟩
  | 4 => ⟨S_, .f32⟩
  | 5 => ⟨S2x2048x2176, .f32⟩
  | 6 => ⟨S2x2048x2176, .f32⟩
  | 7 => ⟨S2x2048x2176, .f32⟩
  | 8 => ⟨S2x2048x2048, .f32⟩
  | 9 => ⟨S2x2048x64, .f32⟩
  | 10 => ⟨S2x2048x64, .f32⟩
  | 11 => ⟨S1x1x32, .f32⟩
  | 12 => ⟨S2x2048x32, .f32⟩
  | 13 => ⟨S2x2048x32, .f32⟩
  | 14 => ⟨S_, .f32⟩
  | 15 => ⟨S2x2048x32, .f32⟩
  | 16 => ⟨S2x2048x32, .f32⟩
  | 17 => ⟨S2x2048x32, .f32⟩
  | 18 => ⟨S2x2048x32, .f32⟩
  | 19 => ⟨S2x2048x32, .i1⟩
  | 20 => ⟨S2x2048x32, .f32⟩
  | 21 => ⟨S2x2048x32, .f32⟩
  | 22 => ⟨S2x2048x32, .f32⟩
  | 23 => ⟨S2x2048x32, .f32⟩
  | 24 => ⟨S2x2048x32, .f32⟩
  | 25 => ⟨S2x2048x32, .f32⟩
  | 26 => ⟨S2x2048x32, .f32⟩
  | 27 => ⟨S2x2048x32, .f32⟩
  | 28 => ⟨S32, .f32⟩
  | 29 => ⟨S32, .f32⟩
  | 30 => ⟨S2x2048x32x64, .f32⟩
  | 31 => ⟨S2x2048x32x1, .f32⟩
  | 32 => ⟨S2x2048x32x64, .f32⟩
  | 33 => ⟨S2x2048x32x64, .f32⟩
  | 34 => ⟨S1x1x32, .f32⟩
  | 35 => ⟨S2x2048x32, .f32⟩
  | 36 => ⟨S2x2048x32, .f32⟩
  | 37 => ⟨S2x32x2048, .f32⟩
  | 38 => ⟨S_, .f32⟩
  | 39 => ⟨S_, .f32⟩
  | 40 => ⟨S2x32x2048, .f32⟩
  | 41 => ⟨S2x32x2048x1, .f32⟩
  | 42 => ⟨S2x32x1x2048, .f32⟩
  | 43 => ⟨S2x32x2048x2048, .f32⟩
  | 44 => ⟨S2x32x2048x2048, .f32⟩
  | 45 => ⟨S2x32x2048x2048, .f32⟩
  | 46 => ⟨S_, .i1⟩
  | 47 => ⟨S2048x2048, .i1⟩
  | 48 => ⟨S2048x2048, .i32⟩
  | 49 => ⟨S_, .i32⟩
  | 50 => ⟨S2048x2048, .i32⟩
  | 51 => ⟨S2048x2048, .i32⟩
  | 52 => ⟨S2048x2048, .i32⟩
  | 53 => ⟨S2048x2048, .i1⟩
  | 54 => ⟨S_, .i1⟩
  | 55 => ⟨S2048x2048, .i1⟩
  | 56 => ⟨S2048x2048, .i1⟩
  | 57 => ⟨S_, .f32⟩
  | 58 => ⟨S_, .f32⟩
  | 59 => ⟨S2x32x2048x2048, .i1⟩
  | 60 => ⟨S2x32x2048x2048, .f32⟩
  | 61 => ⟨S2x32x2048x2048, .f32⟩
  | 62 => ⟨S2x32x2048x2048, .f32⟩
  | 63 => ⟨S2x2048x2048, .f32⟩
  | 64 => ⟨S2x1x2048x2048, .f32⟩
  | 65 => ⟨S2x32x2048x2048, .f32⟩
  | 66 => ⟨S2x32x2048x2048, .f32⟩
  | 67 => ⟨S2x32x64x2048, .f32⟩
  | 68 => ⟨S2x2048x32x64, .f32⟩
  | 69 => ⟨S1x1x32x1, .f32⟩
  | 70 => ⟨S2x2048x32x64, .f32⟩
  | 71 => ⟨S2x2048x32x64, .f32⟩
  | 72 => ⟨S2x2048x32x64, .f32⟩
  | 73 => ⟨S2x2048x2048, .f32⟩
  | 74 => ⟨S2x2048x2048, .f32⟩
  | 75 => ⟨S2x2048x2048, .f32⟩
  | 76 => ⟨S_, .f32⟩
  | 77 => ⟨S2x2048x2048, .f32⟩
  | 78 => ⟨S2x2048x2048, .f32⟩
  | 79 => ⟨S_, .f32⟩
  | 80 => ⟨S2x2048x2048, .f32⟩
  | 81 => ⟨S2x2048x2048, .f32⟩
  | 82 => ⟨S2x2048x2048, .f32⟩
  | 83 => ⟨S2x2048x2048, .f32⟩
  | 84 => ⟨S2x2048x2048, .f32⟩
  | 85 => ⟨S_, .f32⟩
  | 86 => ⟨S2x2048, .f32⟩
  | 87 => ⟨S2x2048x1, .f32⟩
  | 88 => ⟨S_, .f32⟩
  | 89 => ⟨S2x2048x1, .f32⟩
  | 90 => ⟨S2x2048x1, .f32⟩
  | 91 => ⟨S_, .f32⟩
  | 92 => ⟨S2x2048x1, .f32⟩
  | 93 => ⟨S2x2048x1, .f32⟩
  | 94 => ⟨S2x2048x1, .f32⟩
  | 95 => ⟨S2x2048x2048, .f32⟩
  | 96 => ⟨S2x2048x2048, .f32⟩
  | 97 => ⟨S1x1x2048, .f32⟩
  | 98 => ⟨S2x2048x2048, .f32⟩
  | 99 => ⟨S2x2048x2048, .f32⟩
  | 100 => ⟨S2x2048x1024, .f32⟩
  | 101 => ⟨S2x2048x1024, .f32⟩
  | 102 => ⟨S1x1024, .f32⟩
  | 103 => ⟨S1024, .f32⟩
  | 104 => ⟨S2x2048x1024, .f32⟩
  | 105 => ⟨S_, .f32⟩
  | 106 => ⟨S2x2048, .f32⟩
  | 107 => ⟨S2x2048x1, .f32⟩
  | 108 => ⟨S_, .f32⟩
  | 109 => ⟨S2x2048x1, .f32⟩
  | 110 => ⟨S2x2048x1, .f32⟩
  | 111 => ⟨S_, .f32⟩
  | 112 => ⟨S2x2048x1, .f32⟩
  | 113 => ⟨S2x2048x1, .f32⟩
  | 114 => ⟨S2x2048x1, .f32⟩
  | 115 => ⟨S2x2048x1024, .f32⟩
  | 116 => ⟨S2x2048x1024, .f32⟩
  | 117 => ⟨S1x1x1024, .f32⟩
  | 118 => ⟨S2x2048x1024, .f32⟩
  | 119 => ⟨S2x2048x1024, .f32⟩
  | 120 => ⟨S1x4256x1024, .f32⟩
  | 121 => ⟨S4256x1024, .f32⟩
  | 122 => ⟨S1x2176x4, .f32⟩
  | 123 => ⟨S2176x4, .f32⟩
  | 124 => ⟨S1x2176, .f32⟩
  | 125 => ⟨S2176, .f32⟩
  | 126 => ⟨S1x32, .f32⟩
  | 127 => ⟨S32, .f32⟩
  | _ => ⟨S2x2048x1024, .f32⟩

abbrev hbmTy0_3 (i : Nat) : BufTy := match i % 128 with
  | 0 => ⟨S1x32, .f32⟩
  | 1 => ⟨S32, .f32⟩
  | 2 => ⟨S1x32, .f32⟩
  | 3 => ⟨S32, .f32⟩
  | 4 => ⟨S1x2048, .f32⟩
  | 5 => ⟨S2048, .f32⟩
  | 6 => ⟨S1x1024x2048, .f32⟩
  | 7 => ⟨S1024x2048, .f32⟩
  | 8 => ⟨S2x2048x4256, .f32⟩
  | 9 => ⟨S2x2048x2048, .f32⟩
  | 10 => ⟨S2x2048x2176, .f32⟩
  | 11 => ⟨S2x2048x32, .f32⟩
  | 12 => ⟨S_, .i32⟩
  | 13 => ⟨S_, .f32⟩
  | 14 => ⟨S2x2051x2176, .f32⟩
  | 15 => ⟨S2x2048x2176, .f32⟩
  | 16 => ⟨S2176x1, .f32⟩
  | 17 => ⟨S2176, .f32⟩
  | 18 => ⟨S1x1x2176, .f32⟩
  | 19 => ⟨S2x2048x2176, .f32⟩
  | 20 => ⟨S2x2048x2176, .f32⟩
  | 21 => ⟨S1x1x2176, .f32⟩
  | 22 => ⟨S2x2048x2176, .f32⟩
  | 23 => ⟨S2x2048x2176, .f32⟩
  | 24 => ⟨S2x2048x2176, .f32⟩
  | 25 => ⟨S2176x1, .f32⟩
  | 26 => ⟨S2176, .f32⟩
  | 27 => ⟨S1x1x2176, .f32⟩
  | 28 => ⟨S2x2048x2176, .f32⟩
  | 29 => ⟨S2x2048x2176, .f32⟩
  | 30 => ⟨S2x2048x2176, .f32⟩
  | 31 => ⟨S2x2048x2176, .f32⟩
  | 32 => ⟨S2176x1, .f32⟩
  | 33 => ⟨S2176, .f32⟩
  | 34 => ⟨S1x1x2176, .f32⟩
  | 35 => ⟨S2x2048x2176, .f32⟩
  | 36 => ⟨S2x2048x2176, .f32⟩
  | 37 => ⟨S2x2048x2176, .f32⟩
  | 38 => ⟨S2x2048x2176, .f32⟩
  | 39 => ⟨S2176x1, .f32⟩
  | 40 => ⟨S2176, .f32⟩
  | 41 => ⟨S1x1x2176, .f32⟩
  | 42 => ⟨S2x2048x2176, .f32⟩
  | 43 => ⟨S2x2048x2176, .f32⟩
  | 44 => ⟨S2x2048x2176, .f32⟩
  | 45 => ⟨S2x2048x2176, .f32⟩
  | 46 => ⟨S2x2048x2176, .f32⟩
  | 47 => ⟨S_, .f32⟩
  | 48 => ⟨S2x2048x2176, .f32⟩
  | 49 => ⟨S2x2048x2176, .f32⟩
  | 50 => ⟨S_, .f32⟩
  | 51 => ⟨S2x2048x2176, .f32⟩
  | 52 => ⟨S2x2048x2176, .f32⟩
  | 53 => ⟨S2x2048x2176, .f32⟩
  | 54 => ⟨S2x2048x2048, .f32⟩
  | 55 => ⟨S2x2048x64, .f32⟩
  | 56 => ⟨S2x2048x64, .f32⟩
  | 57 => ⟨S1x1x32, .f32⟩
  | 58 => ⟨S2x2048x32, .f32⟩
  | 59 => ⟨S2x2048x32, .f32⟩
  | 60 => ⟨S_, .f32⟩
  | 61 => ⟨S2x2048x32, .f32⟩
  | 62 => ⟨S2x2048x32, .f32⟩
  | 63 => ⟨S2x2048x32, .f32⟩
  | 64 => ⟨S2x2048x32, .f32⟩
  | 65 => ⟨S2x2048x32, .i1⟩
  | 66 => ⟨S2x2048x32, .f32⟩
  | 67 => ⟨S2x2048x32, .f32⟩
  | 68 => ⟨S2x2048x32, .f32⟩
  | 69 => ⟨S2x2048x32, .f32⟩
  | 70 => ⟨S2x2048x32, .f32⟩
  | 71 => ⟨S2x2048x32, .f32⟩
  | 72 => ⟨S2x2048x32, .f32⟩
  | 73 => ⟨S2x2048x32, .f32⟩
  | 74 => ⟨S32, .f32⟩
  | 75 => ⟨S32, .f32⟩
  | 76 => ⟨S2x2048x32x64, .f32⟩
  | 77 => ⟨S2x2048x32x1, .f32⟩
  | 78 => ⟨S2x2048x32x64, .f32⟩
  | 79 => ⟨S2x2048x32x64, .f32⟩
  | 80 => ⟨S1x1x32, .f32⟩
  | 81 => ⟨S2x2048x32, .f32⟩
  | 82 => ⟨S2x2048x32, .f32⟩
  | 83 => ⟨S2x32x2048, .f32⟩
  | 84 => ⟨S_, .f32⟩
  | 85 => ⟨S_, .f32⟩
  | 86 => ⟨S2x32x2048, .f32⟩
  | 87 => ⟨S2x32x2048x1, .f32⟩
  | 88 => ⟨S2x32x1x2048, .f32⟩
  | 89 => ⟨S2x32x2048x2048, .f32⟩
  | 90 => ⟨S2x32x2048x2048, .f32⟩
  | 91 => ⟨S2x32x2048x2048, .f32⟩
  | 92 => ⟨S_, .i1⟩
  | 93 => ⟨S2048x2048, .i1⟩
  | 94 => ⟨S2048x2048, .i32⟩
  | 95 => ⟨S_, .i32⟩
  | 96 => ⟨S2048x2048, .i32⟩
  | 97 => ⟨S2048x2048, .i32⟩
  | 98 => ⟨S2048x2048, .i32⟩
  | 99 => ⟨S2048x2048, .i1⟩
  | 100 => ⟨S_, .i1⟩
  | 101 => ⟨S2048x2048, .i1⟩
  | 102 => ⟨S2048x2048, .i1⟩
  | 103 => ⟨S_, .f32⟩
  | 104 => ⟨S_, .f32⟩
  | 105 => ⟨S2x32x2048x2048, .i1⟩
  | 106 => ⟨S2x32x2048x2048, .f32⟩
  | 107 => ⟨S2x32x2048x2048, .f32⟩
  | 108 => ⟨S2x32x2048x2048, .f32⟩
  | 109 => ⟨S2x2048x2048, .f32⟩
  | 110 => ⟨S2x1x2048x2048, .f32⟩
  | 111 => ⟨S2x32x2048x2048, .f32⟩
  | 112 => ⟨S2x32x2048x2048, .f32⟩
  | 113 => ⟨S2x32x64x2048, .f32⟩
  | 114 => ⟨S2x2048x32x64, .f32⟩
  | 115 => ⟨S1x1x32x1, .f32⟩
  | 116 => ⟨S2x2048x32x64, .f32⟩
  | 117 => ⟨S2x2048x32x64, .f32⟩
  | 118 => ⟨S2x2048x32x64, .f32⟩
  | 119 => ⟨S2x2048x2048, .f32⟩
  | 120 => ⟨S2x2048x2048, .f32⟩
  | 121 => ⟨S2x2048x2048, .f32⟩
  | 122 => ⟨S_, .f32⟩
  | 123 => ⟨S2x2048x2048, .f32⟩
  | 124 => ⟨S2x2048x2048, .f32⟩
  | 125 => ⟨S_, .f32⟩
  | 126 => ⟨S2x2048x2048, .f32⟩
  | 127 => ⟨S2x2048x2048, .f32⟩
  | _ => ⟨S2x2048x1024, .f32⟩

abbrev hbmTy0_4 (i : Nat) : BufTy := match i % 128 with
  | 0 => ⟨S2x2048x2048, .f32⟩
  | 1 => ⟨S2x2048x2048, .f32⟩
  | 2 => ⟨S2x2048x2048, .f32⟩
  | 3 => ⟨S_, .f32⟩
  | 4 => ⟨S2x2048, .f32⟩
  | 5 => ⟨S2x2048x1, .f32⟩
  | 6 => ⟨S_, .f32⟩
  | 7 => ⟨S2x2048x1, .f32⟩
  | 8 => ⟨S2x2048x1, .f32⟩
  | 9 => ⟨S_, .f32⟩
  | 10 => ⟨S2x2048x1, .f32⟩
  | 11 => ⟨S2x2048x1, .f32⟩
  | 12 => ⟨S2x2048x1, .f32⟩
  | 13 => ⟨S2x2048x2048, .f32⟩
  | 14 => ⟨S2x2048x2048, .f32⟩
  | 15 => ⟨S1x1x2048, .f32⟩
  | 16 => ⟨S2x2048x2048, .f32⟩
  | 17 => ⟨S2x2048x2048, .f32⟩
  | 18 => ⟨S2x2048x1024, .f32⟩
  | 19 => ⟨S2x2048x1024, .f32⟩
  | 20 => ⟨S1x1024, .f32⟩
  | 21 => ⟨S1024, .f32⟩
  | 22 => ⟨S2x2048x1024, .f32⟩
  | 23 => ⟨S_, .f32⟩
  | 24 => ⟨S2x2048, .f32⟩
  | 25 => ⟨S2x2048x1, .f32⟩
  | 26 => ⟨S_, .f32⟩
  | 27 => ⟨S2x2048x1, .f32⟩
  | 28 => ⟨S2x2048x1, .f32⟩
  | 29 => ⟨S_, .f32⟩
  | 30 => ⟨S2x2048x1, .f32⟩
  | 31 => ⟨S2x2048x1, .f32⟩
  | 32 => ⟨S2x2048x1, .f32⟩
  | 33 => ⟨S2x2048x1024, .f32⟩
  | 34 => ⟨S2x2048x1024, .f32⟩
  | 35 => ⟨S1x1x1024, .f32⟩
  | 36 => ⟨S2x2048x1024, .f32⟩
  | 37 => ⟨S2x2048x1024, .f32⟩
  | 38 => ⟨S1x4256x1024, .f32⟩
  | 39 => ⟨S4256x1024, .f32⟩
  | 40 => ⟨S1x2176x4, .f32⟩
  | 41 => ⟨S2176x4, .f32⟩
  | 42 => ⟨S1x2176, .f32⟩
  | 43 => ⟨S2176, .f32⟩
  | 44 => ⟨S1x32, .f32⟩
  | 45 => ⟨S32, .f32⟩
  | 46 => ⟨S1x32, .f32⟩
  | 47 => ⟨S32, .f32⟩
  | 48 => ⟨S1x32, .f32⟩
  | 49 => ⟨S32, .f32⟩
  | 50 => ⟨S1x2048, .f32⟩
  | 51 => ⟨S2048, .f32⟩
  | 52 => ⟨S1x1024x2048, .f32⟩
  | 53 => ⟨S1024x2048, .f32⟩
  | 54 => ⟨S2x2048x4256, .f32⟩
  | 55 => ⟨S2x2048x2048, .f32⟩
  | 56 => ⟨S2x2048x2176, .f32⟩
  | 57 => ⟨S2x2048x32, .f32⟩
  | 58 => ⟨S_, .i32⟩
  | 59 => ⟨S_, .f32⟩
  | 60 => ⟨S2x2051x2176, .f32⟩
  | 61 => ⟨S2x2048x2176, .f32⟩
  | 62 => ⟨S2176x1, .f32⟩
  | 63 => ⟨S2176, .f32⟩
  | 64 => ⟨S1x1x2176, .f32⟩
  | 65 => ⟨S2x2048x2176, .f32⟩
  | 66 => ⟨S2x2048x2176, .f32⟩
  | 67 => ⟨S1x1x2176, .f32⟩
  | 68 => ⟨S2x2048x2176, .f32⟩
  | 69 => ⟨S2x2048x2176, .f32⟩
  | 70 => ⟨S2x2048x2176, .f32⟩
  | 71 => ⟨S2176x1, .f32⟩
  | 72 => ⟨S2176, .f32⟩
  | 73 => ⟨S1x1x2176, .f32⟩
  | 74 => ⟨S2x2048x2176, .f32⟩
  | 75 => ⟨S2x2048x2176, .f32⟩
  | 76 => ⟨S2x2048x2176, .f32⟩
  | 77 => ⟨S2x2048x2176, .f32⟩
  | 78 => ⟨S2176x1, .f32⟩
  | 79 => ⟨S2176, .f32⟩
  | 80 => ⟨S1x1x2176, .f32⟩
  | 81 => ⟨S2x2048x2176, .f32⟩
  | 82 => ⟨S2x2048x2176, .f32⟩
  | 83 => ⟨S2x2048x2176, .f32⟩
  | 84 => ⟨S2x2048x2176, .f32⟩
  | 85 => ⟨S2176x1, .f32⟩
  | 86 => ⟨S2176, .f32⟩
  | 87 => ⟨S1x1x2176, .f32⟩
  | 88 => ⟨S2x2048x2176, .f32⟩
  | 89 => ⟨S2x2048x2176, .f32⟩
  | 90 => ⟨S2x2048x2176, .f32⟩
  | 91 => ⟨S2x2048x2176, .f32⟩
  | 92 => ⟨S2x2048x2176, .f32⟩
  | 93 => ⟨S_, .f32⟩
  | 94 => ⟨S2x2048x2176, .f32⟩
  | 95 => ⟨S2x2048x2176, .f32⟩
  | 96 => ⟨S_, .f32⟩
  | 97 => ⟨S2x2048x2176, .f32⟩
  | 98 => ⟨S2x2048x2176, .f32⟩
  | 99 => ⟨S2x2048x2176, .f32⟩
  | 100 => ⟨S2x2048x2048, .f32⟩
  | 101 => ⟨S2x2048x64, .f32⟩
  | 102 => ⟨S2x2048x64, .f32⟩
  | 103 => ⟨S1x1x32, .f32⟩
  | 104 => ⟨S2x2048x32, .f32⟩
  | 105 => ⟨S2x2048x32, .f32⟩
  | 106 => ⟨S_, .f32⟩
  | 107 => ⟨S2x2048x32, .f32⟩
  | 108 => ⟨S2x2048x32, .f32⟩
  | 109 => ⟨S2x2048x32, .f32⟩
  | 110 => ⟨S2x2048x32, .f32⟩
  | 111 => ⟨S2x2048x32, .i1⟩
  | 112 => ⟨S2x2048x32, .f32⟩
  | 113 => ⟨S2x2048x32, .f32⟩
  | 114 => ⟨S2x2048x32, .f32⟩
  | 115 => ⟨S2x2048x32, .f32⟩
  | 116 => ⟨S2x2048x32, .f32⟩
  | 117 => ⟨S2x2048x32, .f32⟩
  | 118 => ⟨S2x2048x32, .f32⟩
  | 119 => ⟨S2x2048x32, .f32⟩
  | 120 => ⟨S32, .f32⟩
  | 121 => ⟨S32, .f32⟩
  | 122 => ⟨S2x2048x32x64, .f32⟩
  | 123 => ⟨S2x2048x32x1, .f32⟩
  | 124 => ⟨S2x2048x32x64, .f32⟩
  | 125 => ⟨S2x2048x32x64, .f32⟩
  | 126 => ⟨S1x1x32, .f32⟩
  | 127 => ⟨S2x2048x32, .f32⟩
  | _ => ⟨S2x2048x1024, .f32⟩

abbrev hbmTy0_5 (i : Nat) : BufTy := match i % 128 with
  | 0 => ⟨S2x2048x32, .f32⟩
  | 1 => ⟨S2x32x2048, .f32⟩
  | 2 => ⟨S_, .f32⟩
  | 3 => ⟨S_, .f32⟩
  | 4 => ⟨S2x32x2048, .f32⟩
  | 5 => ⟨S2x32x2048x1, .f32⟩
  | 6 => ⟨S2x32x1x2048, .f32⟩
  | 7 => ⟨S2x32x2048x2048, .f32⟩
  | 8 => ⟨S2x32x2048x2048, .f32⟩
  | 9 => ⟨S2x32x2048x2048, .f32⟩
  | 10 => ⟨S_, .i1⟩
  | 11 => ⟨S2048x2048, .i1⟩
  | 12 => ⟨S2048x2048, .i32⟩
  | 13 => ⟨S_, .i32⟩
  | 14 => ⟨S2048x2048, .i32⟩
  | 15 => ⟨S2048x2048, .i32⟩
  | 16 => ⟨S2048x2048, .i32⟩
  | 17 => ⟨S2048x2048, .i1⟩
  | 18 => ⟨S_, .i1⟩
  | 19 => ⟨S2048x2048, .i1⟩
  | 20 => ⟨S2048x2048, .i1⟩
  | 21 => ⟨S_, .f32⟩
  | 22 => ⟨S_, .f32⟩
  | 23 => ⟨S2x32x2048x2048, .i1⟩
  | 24 => ⟨S2x32x2048x2048, .f32⟩
  | 25 => ⟨S2x32x2048x2048, .f32⟩
  | 26 => ⟨S2x32x2048x2048, .f32⟩
  | 27 => ⟨S2x2048x2048, .f32⟩
  | 28 => ⟨S2x1x2048x2048, .f32⟩
  | 29 => ⟨S2x32x2048x2048, .f32⟩
  | 30 => ⟨S2x32x2048x2048, .f32⟩
  | 31 => ⟨S2x32x64x2048, .f32⟩
  | 32 => ⟨S2x2048x32x64, .f32⟩
  | 33 => ⟨S1x1x32x1, .f32⟩
  | 34 => ⟨S2x2048x32x64, .f32⟩
  | 35 => ⟨S2x2048x32x64, .f32⟩
  | 36 => ⟨S2x2048x32x64, .f32⟩
  | 37 => ⟨S2x2048x2048, .f32⟩
  | 38 => ⟨S2x2048x2048, .f32⟩
  | 39 => ⟨S2x2048x2048, .f32⟩
  | 40 => ⟨S_, .f32⟩
  | 41 => ⟨S2x2048x2048, .f32⟩
  | 42 => ⟨S2x2048x2048, .f32⟩
  | 43 => ⟨S_, .f32⟩
  | 44 => ⟨S2x2048x2048, .f32⟩
  | 45 => ⟨S2x2048x2048, .f32⟩
  | 46 => ⟨S2x2048x2048, .f32⟩
  | 47 => ⟨S2x2048x2048, .f32⟩
  | 48 => ⟨S2x2048x2048, .f32⟩
  | 49 => ⟨S_, .f32⟩
  | 50 => ⟨S2x2048, .f32⟩
  | 51 => ⟨S2x2048x1, .f32⟩
  | 52 => ⟨S_, .f32⟩
  | 53 => ⟨S2x2048x1, .f32⟩
  | 54 => ⟨S2x2048x1, .f32⟩
  | 55 => ⟨S_, .f32⟩
  | 56 => ⟨S2x2048x1, .f32⟩
  | 57 => ⟨S2x2048x1, .f32⟩
  | 58 => ⟨S2x2048x1, .f32⟩
  | 59 => ⟨S2x2048x2048, .f32⟩
  | 60 => ⟨S2x2048x2048, .f32⟩
  | 61 => ⟨S1x1x2048, .f32⟩
  | 62 => ⟨S2x2048x2048, .f32⟩
  | 63 => ⟨S2x2048x2048, .f32⟩
  | 64 => ⟨S2x2048x1024, .f32⟩
  | 65 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c : Ref sig .tc := ⟨.hbm, 48, rfl⟩
abbrev main_call0_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_2 : Ref sig .tc := ⟨.hbm, 83, rfl⟩
abbrev main_v68 : Ref sig .tc := ⟨.hbm, 84, rfl⟩
abbrev main_v69 : Ref sig .tc := ⟨.hbm, 85, rfl⟩
abbrev main_cst_3 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_call2_call0_cst : Ref sig .tc := ⟨.hbm, 120, rfl⟩
abbrev main_call2_call0_v0 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_4 : Ref sig .tc := ⟨.hbm, 128, rfl⟩
abbrev main_v96 : Ref sig .tc := ⟨.hbm, 129, rfl⟩
abbrev main_call3_v0 : Ref sig .tc := ⟨.hbm, 130, rfl⟩
abbrev main_call3_c : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_c_0 : Ref sig .tc := ⟨.hbm, 136, rfl⟩
abbrev main_call3_v5 : Ref sig .tc := ⟨.hbm, 137, rfl⟩
abbrev main_v97 : Ref sig .tc := ⟨.hbm, 138, rfl⟩
abbrev main_cst_5 : Ref sig .tc := ⟨.hbm, 139, rfl⟩
abbrev main_call4_v0 : Ref sig .tc := ⟨.hbm, 140, rfl⟩
abbrev main_call4_v1 : Ref sig .tc := ⟨.hbm, 141, rfl⟩
abbrev main_call4_v2 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_6 : Ref sig .tc := ⟨.hbm, 158, rfl⟩
abbrev main_v113 : Ref sig .tc := ⟨.hbm, 159, rfl⟩
abbrev main_v114 : Ref sig .tc := ⟨.hbm, 160, rfl⟩
abbrev main_cst_7 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_8 : Ref sig .tc := ⟨.hbm, 167, rfl⟩
abbrev main_v120 : Ref sig .tc := ⟨.hbm, 168, rfl⟩
abbrev main_v121 : Ref sig .tc := ⟨.hbm, 169, rfl⟩
abbrev main_cst_9 : Ref sig .tc := ⟨.hbm, 170, rfl⟩
abbrev main_v122 : Ref sig .tc := ⟨.hbm, 171, rfl⟩
abbrev main_v123 : Ref sig .tc := ⟨.hbm, 172, rfl⟩
abbrev main_cst_10 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_11 : Ref sig .tc := ⟨.hbm, 187, rfl⟩
abbrev main_v137 : Ref sig .tc := ⟨.hbm, 188, rfl⟩
abbrev main_v138 : Ref sig .tc := ⟨.hbm, 189, rfl⟩
abbrev main_cst_12 : Ref sig .tc := ⟨.hbm, 190, rfl⟩
abbrev main_v139 : Ref sig .tc := ⟨.hbm, 191, rfl⟩
abbrev main_v140 : Ref sig .tc := ⟨.hbm, 192, rfl⟩
abbrev main_cst_13 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_c_14 : Ref sig .tc := ⟨.hbm, 222, rfl⟩
abbrev main_call5_v0 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_cst_15 : Ref sig .tc := ⟨.hbm, 257, rfl⟩
abbrev main_v202 : Ref sig .tc := ⟨.hbm, 258, rfl⟩
abbrev main_v203 : Ref sig .tc := ⟨.hbm, 259, rfl⟩
abbrev main_cst_16 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_call6_cst : Ref sig .tc := ⟨.hbm, 270, rfl⟩
abbrev main_call6_v0 : Ref sig .tc := ⟨.hbm, 271, rfl⟩
abbrev main_call6_v1 : Ref sig .tc := ⟨.hbm, 272, rfl⟩
abbrev main_call6_v2 : Ref sig .tc := ⟨.hbm, 273, rfl⟩
abbrev main_call6_v3 : Ref sig .tc := ⟨.hbm, 274, rfl⟩
abbrev main_call6_v4 : Ref sig .tc := ⟨.hbm, 275, rfl⟩
abbrev main_call6_v5 : Ref sig .tc := ⟨.hbm, 276, rfl⟩
abbrev main_call6_v6 : Ref sig .tc := ⟨.hbm, 277, rfl⟩
abbrev main_call6_v7 : Ref sig .tc := ⟨.hbm, 278, rfl⟩
abbrev main_call6_v8 : Ref sig .tc := ⟨.hbm, 279, rfl⟩
abbrev main_call6_v9 : Ref sig .tc := ⟨.hbm, 280, rfl⟩
abbrev main_call6_v10 : Ref sig .tc := ⟨.hbm, 281, rfl⟩
abbrev main_call6_v11 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_call7_call0_cst : Ref sig .tc := ⟨.hbm, 294, rfl⟩
abbrev main_call7_call0_v0 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_c_17 : Ref sig .tc := ⟨.hbm, 302, rfl⟩
abbrev main_v230 : Ref sig .tc := ⟨.hbm, 303, rfl⟩
abbrev main_call8_v0 : Ref sig .tc := ⟨.hbm, 304, rfl⟩
abbrev main_call8_c : Ref sig .tc := ⟨.hbm, 305, rfl⟩
abbrev main_call8_v1 : Ref sig .tc := ⟨.hbm, 306, rfl⟩
abbrev main_call8_v2 : Ref sig .tc := ⟨.hbm, 307, rfl⟩
abbrev main_call8_v3 : Ref sig .tc := ⟨.hbm, 308, rfl⟩
abbrev main_call8_v4 : Ref sig .tc := ⟨.hbm, 309, rfl⟩
abbrev main_call8_c_0 : Ref sig .tc := ⟨.hbm, 310, rfl⟩
abbrev main_call8_v5 : Ref sig .tc := ⟨.hbm, 311, rfl⟩
abbrev main_v231 : Ref sig .tc := ⟨.hbm, 312, rfl⟩
abbrev main_cst_18 : Ref sig .tc := ⟨.hbm, 313, rfl⟩
abbrev main_call9_v0 : Ref sig .tc := ⟨.hbm, 314, rfl⟩
abbrev main_call9_v1 : Ref sig .tc := ⟨.hbm, 315, rfl⟩
abbrev main_call9_v2 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_cst_19 : Ref sig .tc := ⟨.hbm, 332, rfl⟩
abbrev main_v247 : Ref sig .tc := ⟨.hbm, 333, rfl⟩
abbrev main_v248 : Ref sig .tc := ⟨.hbm, 334, rfl⟩
abbrev main_cst_20 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_v253 : Ref sig .tc := ⟨.hbm, 340, rfl⟩
abbrev main_cst_21 : Ref sig .tc := ⟨.hbm, 341, rfl⟩
abbrev main_v254 : Ref sig .tc := ⟨.hbm, 342, rfl⟩
abbrev main_v255 : Ref sig .tc := ⟨.hbm, 343, rfl⟩
abbrev main_cst_22 : Ref sig .tc := ⟨.hbm, 344, rfl⟩
abbrev main_v256 : Ref sig .tc := ⟨.hbm, 345, rfl⟩
abbrev main_v257 : Ref sig .tc := ⟨.hbm, 346, rfl⟩
abbrev main_cst_23 : Ref sig .tc := ⟨.hbm, 347, rfl⟩
abbrev main_v258 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_cst_24 : Ref sig .tc := ⟨.hbm, 361, rfl⟩
abbrev main_v271 : Ref sig .tc := ⟨.hbm, 362, rfl⟩
abbrev main_v272 : Ref sig .tc := ⟨.hbm, 363, rfl⟩
abbrev main_cst_25 : Ref sig .tc := ⟨.hbm, 364, rfl⟩
abbrev main_v273 : Ref sig .tc := ⟨.hbm, 365, rfl⟩
abbrev main_v274 : Ref sig .tc := ⟨.hbm, 366, rfl⟩
abbrev main_cst_26 : Ref sig .tc := ⟨.hbm, 367, rfl⟩
abbrev main_v275 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_v289 : Ref sig .tc := ⟨.hbm, 382, rfl⟩
abbrev main_v290 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩
abbrev main_v295 : Ref sig .tc := ⟨.hbm, 388, rfl⟩
abbrev main_v296 : Ref sig .tc := ⟨.hbm, 389, rfl⟩
abbrev main_v297 : Ref sig .tc := ⟨.hbm, 390, rfl⟩
abbrev main_v298 : Ref sig .tc := ⟨.hbm, 391, rfl⟩
abbrev main_v299 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_c_27 : Ref sig .tc := ⟨.hbm, 396, rfl⟩
abbrev main_call10_v0 : Ref sig .tc := ⟨.hbm, 397, rfl⟩
abbrev main_v303 : Ref sig .tc := ⟨.hbm, 398, rfl⟩
abbrev main_v304 : Ref sig .tc := ⟨.hbm, 399, rfl⟩
abbrev main_v305 : Ref sig .tc := ⟨.hbm, 400, rfl⟩
abbrev main_v306 : Ref sig .tc := ⟨.hbm, 401, rfl⟩
abbrev main_v307 : Ref sig .tc := ⟨.hbm, 402, rfl⟩
abbrev main_v308 : Ref sig .tc := ⟨.hbm, 403, rfl⟩
abbrev main_v309 : Ref sig .tc := ⟨.hbm, 404, rfl⟩
abbrev main_v310 : Ref sig .tc := ⟨.hbm, 405, rfl⟩
abbrev main_v311 : Ref sig .tc := ⟨.hbm, 406, rfl⟩
abbrev main_v312 : Ref sig .tc := ⟨.hbm, 407, rfl⟩
abbrev main_v313 : Ref sig .tc := ⟨.hbm, 408, rfl⟩
abbrev main_v314 : Ref sig .tc := ⟨.hbm, 409, rfl⟩
abbrev main_v315 : Ref sig .tc := ⟨.hbm, 410, rfl⟩
abbrev main_v316 : Ref sig .tc := ⟨.hbm, 411, rfl⟩
abbrev main_v317 : Ref sig .tc := ⟨.hbm, 412, rfl⟩
abbrev main_v318 : Ref sig .tc := ⟨.hbm, 413, rfl⟩
abbrev main_v319 : Ref sig .tc := ⟨.hbm, 414, rfl⟩
abbrev main_v320 : Ref sig .tc := ⟨.hbm, 415, rfl⟩
abbrev main_v321 : Ref sig .tc := ⟨.hbm, 416, rfl⟩
abbrev main_v322 : Ref sig .tc := ⟨.hbm, 417, rfl⟩
abbrev main_v323 : Ref sig .tc := ⟨.hbm, 418, rfl⟩
abbrev main_v324 : Ref sig .tc := ⟨.hbm, 419, rfl⟩
abbrev main_v325 : Ref sig .tc := ⟨.hbm, 420, rfl⟩
abbrev main_v326 : Ref sig .tc := ⟨.hbm, 421, rfl⟩
abbrev main_v327 : Ref sig .tc := ⟨.hbm, 422, rfl⟩
abbrev main_v328 : Ref sig .tc := ⟨.hbm, 423, rfl⟩
abbrev main_v329 : Ref sig .tc := ⟨.hbm, 424, rfl⟩
abbrev main_v330 : Ref sig .tc := ⟨.hbm, 425, rfl⟩
abbrev main_v331 : Ref sig .tc := ⟨.hbm, 426, rfl⟩
abbrev main_v332 : Ref sig .tc := ⟨.hbm, 427, rfl⟩
abbrev main_v333 : Ref sig .tc := ⟨.hbm, 428, rfl⟩
abbrev main_v334 : Ref sig .tc := ⟨.hbm, 429, rfl⟩
abbrev main_v335 : Ref sig .tc := ⟨.hbm, 430, rfl⟩
abbrev main_cst_28 : Ref sig .tc := ⟨.hbm, 431, rfl⟩
abbrev main_v336 : Ref sig .tc := ⟨.hbm, 432, rfl⟩
abbrev main_v337 : Ref sig .tc := ⟨.hbm, 433, rfl⟩
abbrev main_cst_29 : Ref sig .tc := ⟨.hbm, 434, rfl⟩
abbrev main_v338 : Ref sig .tc := ⟨.hbm, 435, rfl⟩
abbrev main_v339 : Ref sig .tc := ⟨.hbm, 436, rfl⟩
abbrev main_v340 : Ref sig .tc := ⟨.hbm, 437, rfl⟩
abbrev main_v341 : Ref sig .tc := ⟨.hbm, 438, rfl⟩
abbrev main_v342 : Ref sig .tc := ⟨.hbm, 439, rfl⟩
abbrev main_v343 : Ref sig .tc := ⟨.hbm, 440, rfl⟩
abbrev main_v344 : Ref sig .tc := ⟨.hbm, 441, rfl⟩
abbrev main_v345 : Ref sig .tc := ⟨.hbm, 442, rfl⟩
abbrev main_v346 : Ref sig .tc := ⟨.hbm, 443, rfl⟩
abbrev main_call11_cst : Ref sig .tc := ⟨.hbm, 444, rfl⟩
abbrev main_call11_v0 : Ref sig .tc := ⟨.hbm, 445, rfl⟩
abbrev main_call11_v1 : Ref sig .tc := ⟨.hbm, 446, rfl⟩
abbrev main_call11_v2 : Ref sig .tc := ⟨.hbm, 447, rfl⟩
abbrev main_call11_v3 : Ref sig .tc := ⟨.hbm, 448, rfl⟩
abbrev main_call11_v4 : Ref sig .tc := ⟨.hbm, 449, rfl⟩
abbrev main_call11_v5 : Ref sig .tc := ⟨.hbm, 450, rfl⟩
abbrev main_call11_v6 : Ref sig .tc := ⟨.hbm, 451, rfl⟩
abbrev main_call11_v7 : Ref sig .tc := ⟨.hbm, 452, rfl⟩
abbrev main_call11_v8 : Ref sig .tc := ⟨.hbm, 453, rfl⟩
abbrev main_call11_v9 : Ref sig .tc := ⟨.hbm, 454, rfl⟩
abbrev main_call11_v10 : Ref sig .tc := ⟨.hbm, 455, rfl⟩
abbrev main_call11_v11 : Ref sig .tc := ⟨.hbm, 456, rfl⟩
abbrev main_v347 : Ref sig .tc := ⟨.hbm, 457, rfl⟩
abbrev main_v348 : Ref sig .tc := ⟨.hbm, 458, rfl⟩
abbrev main_v349 : Ref sig .tc := ⟨.hbm, 459, rfl⟩
abbrev main_v350 : Ref sig .tc := ⟨.hbm, 460, rfl⟩
abbrev main_v351 : Ref sig .tc := ⟨.hbm, 461, rfl⟩
abbrev main_v352 : Ref sig .tc := ⟨.hbm, 462, rfl⟩
abbrev main_v353 : Ref sig .tc := ⟨.hbm, 463, rfl⟩
abbrev main_v354 : Ref sig .tc := ⟨.hbm, 464, rfl⟩
abbrev main_v355 : Ref sig .tc := ⟨.hbm, 465, rfl⟩
abbrev main_v356 : Ref sig .tc := ⟨.hbm, 466, rfl⟩
abbrev main_v357 : Ref sig .tc := ⟨.hbm, 467, rfl⟩
abbrev main_call12_call0_cst : Ref sig .tc := ⟨.hbm, 468, rfl⟩
abbrev main_call12_call0_v0 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_v362 : Ref sig .tc := ⟨.hbm, 474, rfl⟩
abbrev main_v363 : Ref sig .tc := ⟨.hbm, 475, rfl⟩
abbrev main_c_30 : Ref sig .tc := ⟨.hbm, 476, rfl⟩
abbrev main_v364 : Ref sig .tc := ⟨.hbm, 477, rfl⟩
abbrev main_call13_v0 : Ref sig .tc := ⟨.hbm, 478, rfl⟩
abbrev main_call13_c : Ref sig .tc := ⟨.hbm, 479, rfl⟩
abbrev main_call13_v1 : Ref sig .tc := ⟨.hbm, 480, rfl⟩
abbrev main_call13_v2 : Ref sig .tc := ⟨.hbm, 481, rfl⟩
abbrev main_call13_v3 : Ref sig .tc := ⟨.hbm, 482, rfl⟩
abbrev main_call13_v4 : Ref sig .tc := ⟨.hbm, 483, rfl⟩
abbrev main_call13_c_0 : Ref sig .tc := ⟨.hbm, 484, rfl⟩
abbrev main_call13_v5 : Ref sig .tc := ⟨.hbm, 485, rfl⟩
abbrev main_v365 : Ref sig .tc := ⟨.hbm, 486, rfl⟩
abbrev main_cst_31 : Ref sig .tc := ⟨.hbm, 487, rfl⟩
abbrev main_call14_v0 : Ref sig .tc := ⟨.hbm, 488, rfl⟩
abbrev main_call14_v1 : Ref sig .tc := ⟨.hbm, 489, rfl⟩
abbrev main_call14_v2 : Ref sig .tc := ⟨.hbm, 490, rfl⟩
abbrev main_v366 : Ref sig .tc := ⟨.hbm, 491, rfl⟩
abbrev main_v367 : Ref sig .tc := ⟨.hbm, 492, rfl⟩
abbrev main_v368 : Ref sig .tc := ⟨.hbm, 493, rfl⟩
abbrev main_v369 : Ref sig .tc := ⟨.hbm, 494, rfl⟩
abbrev main_v370 : Ref sig .tc := ⟨.hbm, 495, rfl⟩
abbrev main_v371 : Ref sig .tc := ⟨.hbm, 496, rfl⟩
abbrev main_v372 : Ref sig .tc := ⟨.hbm, 497, rfl⟩
abbrev main_v373 : Ref sig .tc := ⟨.hbm, 498, rfl⟩
abbrev main_v374 : Ref sig .tc := ⟨.hbm, 499, rfl⟩
abbrev main_v375 : Ref sig .tc := ⟨.hbm, 500, rfl⟩
abbrev main_v376 : Ref sig .tc := ⟨.hbm, 501, rfl⟩
abbrev main_v377 : Ref sig .tc := ⟨.hbm, 502, rfl⟩
abbrev main_v378 : Ref sig .tc := ⟨.hbm, 503, rfl⟩
abbrev main_v379 : Ref sig .tc := ⟨.hbm, 504, rfl⟩
abbrev main_v380 : Ref sig .tc := ⟨.hbm, 505, rfl⟩
abbrev main_cst_32 : Ref sig .tc := ⟨.hbm, 506, rfl⟩
abbrev main_v381 : Ref sig .tc := ⟨.hbm, 507, rfl⟩
abbrev main_v382 : Ref sig .tc := ⟨.hbm, 508, rfl⟩
abbrev main_cst_33 : Ref sig .tc := ⟨.hbm, 509, rfl⟩
abbrev main_v383 : Ref sig .tc := ⟨.hbm, 510, rfl⟩
abbrev main_v384 : Ref sig .tc := ⟨.hbm, 511, rfl⟩
abbrev main_v385 : Ref sig .tc := ⟨.hbm, 512, rfl⟩
abbrev main_v386 : Ref sig .tc := ⟨.hbm, 513, rfl⟩
abbrev main_v387 : Ref sig .tc := ⟨.hbm, 514, rfl⟩
abbrev main_cst_34 : Ref sig .tc := ⟨.hbm, 515, rfl⟩
abbrev main_v388 : Ref sig .tc := ⟨.hbm, 516, rfl⟩
abbrev main_v389 : Ref sig .tc := ⟨.hbm, 517, rfl⟩
abbrev main_cst_35 : Ref sig .tc := ⟨.hbm, 518, rfl⟩
abbrev main_v390 : Ref sig .tc := ⟨.hbm, 519, rfl⟩
abbrev main_v391 : Ref sig .tc := ⟨.hbm, 520, rfl⟩
abbrev main_cst_36 : Ref sig .tc := ⟨.hbm, 521, rfl⟩
abbrev main_v392 : Ref sig .tc := ⟨.hbm, 522, rfl⟩
abbrev main_v393 : Ref sig .tc := ⟨.hbm, 523, rfl⟩
abbrev main_v394 : Ref sig .tc := ⟨.hbm, 524, rfl⟩
abbrev main_v395 : Ref sig .tc := ⟨.hbm, 525, rfl⟩
abbrev main_v396 : Ref sig .tc := ⟨.hbm, 526, rfl⟩
abbrev main_v397 : Ref sig .tc := ⟨.hbm, 527, rfl⟩
abbrev main_v398 : Ref sig .tc := ⟨.hbm, 528, rfl⟩
abbrev main_v399 : Ref sig .tc := ⟨.hbm, 529, rfl⟩
abbrev main_v400 : Ref sig .tc := ⟨.hbm, 530, rfl⟩
abbrev main_v401 : Ref sig .tc := ⟨.hbm, 531, rfl⟩
abbrev main_v402 : Ref sig .tc := ⟨.hbm, 532, rfl⟩
abbrev main_v403 : Ref sig .tc := ⟨.hbm, 533, rfl⟩
abbrev main_v404 : Ref sig .tc := ⟨.hbm, 534, rfl⟩
abbrev main_cst_37 : Ref sig .tc := ⟨.hbm, 535, rfl⟩
abbrev main_v405 : Ref sig .tc := ⟨.hbm, 536, rfl⟩
abbrev main_v406 : Ref sig .tc := ⟨.hbm, 537, rfl⟩
abbrev main_cst_38 : Ref sig .tc := ⟨.hbm, 538, rfl⟩
abbrev main_v407 : Ref sig .tc := ⟨.hbm, 539, rfl⟩
abbrev main_v408 : Ref sig .tc := ⟨.hbm, 540, rfl⟩
abbrev main_cst_39 : Ref sig .tc := ⟨.hbm, 541, rfl⟩
abbrev main_v409 : Ref sig .tc := ⟨.hbm, 542, rfl⟩
abbrev main_v410 : Ref sig .tc := ⟨.hbm, 543, rfl⟩
abbrev main_v411 : Ref sig .tc := ⟨.hbm, 544, rfl⟩
abbrev main_v412 : Ref sig .tc := ⟨.hbm, 545, rfl⟩
abbrev main_v413 : Ref sig .tc := ⟨.hbm, 546, rfl⟩
abbrev main_v414 : Ref sig .tc := ⟨.hbm, 547, rfl⟩
abbrev main_v415 : Ref sig .tc := ⟨.hbm, 548, rfl⟩
abbrev main_v416 : Ref sig .tc := ⟨.hbm, 549, rfl⟩
abbrev main_v417 : Ref sig .tc := ⟨.hbm, 550, rfl⟩
abbrev main_v418 : Ref sig .tc := ⟨.hbm, 551, rfl⟩
abbrev main_v419 : Ref sig .tc := ⟨.hbm, 552, rfl⟩
abbrev main_v420 : Ref sig .tc := ⟨.hbm, 553, rfl⟩
abbrev main_v421 : Ref sig .tc := ⟨.hbm, 554, rfl⟩
abbrev main_v422 : Ref sig .tc := ⟨.hbm, 555, rfl⟩
abbrev main_v423 : Ref sig .tc := ⟨.hbm, 556, rfl⟩
abbrev main_v424 : Ref sig .tc := ⟨.hbm, 557, rfl⟩
abbrev main_v425 : Ref sig .tc := ⟨.hbm, 558, rfl⟩
abbrev main_v426 : Ref sig .tc := ⟨.hbm, 559, rfl⟩
abbrev main_v427 : Ref sig .tc := ⟨.hbm, 560, rfl⟩
abbrev main_v428 : Ref sig .tc := ⟨.hbm, 561, rfl⟩
abbrev main_v429 : Ref sig .tc := ⟨.hbm, 562, rfl⟩
abbrev main_v430 : Ref sig .tc := ⟨.hbm, 563, rfl⟩
abbrev main_v431 : Ref sig .tc := ⟨.hbm, 564, rfl⟩
abbrev main_v432 : Ref sig .tc := ⟨.hbm, 565, rfl⟩
abbrev main_v433 : Ref sig .tc := ⟨.hbm, 566, rfl⟩
abbrev main_v434 : Ref sig .tc := ⟨.hbm, 567, rfl⟩
abbrev main_v435 : Ref sig .tc := ⟨.hbm, 568, rfl⟩
abbrev main_v436 : Ref sig .tc := ⟨.hbm, 569, rfl⟩
abbrev main_c_40 : Ref sig .tc := ⟨.hbm, 570, rfl⟩
abbrev main_call15_v0 : Ref sig .tc := ⟨.hbm, 571, rfl⟩
abbrev main_v437 : Ref sig .tc := ⟨.hbm, 572, rfl⟩
abbrev main_v438 : Ref sig .tc := ⟨.hbm, 573, rfl⟩
abbrev main_v439 : Ref sig .tc := ⟨.hbm, 574, rfl⟩
abbrev main_v440 : Ref sig .tc := ⟨.hbm, 575, rfl⟩
abbrev main_v441 : Ref sig .tc := ⟨.hbm, 576, rfl⟩
abbrev main_v442 : Ref sig .tc := ⟨.hbm, 577, rfl⟩
abbrev main_v443 : Ref sig .tc := ⟨.hbm, 578, rfl⟩
abbrev main_v444 : Ref sig .tc := ⟨.hbm, 579, rfl⟩
abbrev main_v445 : Ref sig .tc := ⟨.hbm, 580, rfl⟩
abbrev main_v446 : Ref sig .tc := ⟨.hbm, 581, rfl⟩
abbrev main_v447 : Ref sig .tc := ⟨.hbm, 582, rfl⟩
abbrev main_v448 : Ref sig .tc := ⟨.hbm, 583, rfl⟩
abbrev main_v449 : Ref sig .tc := ⟨.hbm, 584, rfl⟩
abbrev main_v450 : Ref sig .tc := ⟨.hbm, 585, rfl⟩
abbrev main_v451 : Ref sig .tc := ⟨.hbm, 586, rfl⟩
abbrev main_v452 : Ref sig .tc := ⟨.hbm, 587, rfl⟩
abbrev main_v453 : Ref sig .tc := ⟨.hbm, 588, rfl⟩
abbrev main_v454 : Ref sig .tc := ⟨.hbm, 589, rfl⟩
abbrev main_v455 : Ref sig .tc := ⟨.hbm, 590, rfl⟩
abbrev main_v456 : Ref sig .tc := ⟨.hbm, 591, rfl⟩
abbrev main_v457 : Ref sig .tc := ⟨.hbm, 592, rfl⟩
abbrev main_v458 : Ref sig .tc := ⟨.hbm, 593, rfl⟩
abbrev main_v459 : Ref sig .tc := ⟨.hbm, 594, rfl⟩
abbrev main_v460 : Ref sig .tc := ⟨.hbm, 595, rfl⟩
abbrev main_v461 : Ref sig .tc := ⟨.hbm, 596, rfl⟩
abbrev main_v462 : Ref sig .tc := ⟨.hbm, 597, rfl⟩
abbrev main_v463 : Ref sig .tc := ⟨.hbm, 598, rfl⟩
abbrev main_v464 : Ref sig .tc := ⟨.hbm, 599, rfl⟩
abbrev main_v465 : Ref sig .tc := ⟨.hbm, 600, rfl⟩
abbrev main_v466 : Ref sig .tc := ⟨.hbm, 601, rfl⟩
abbrev main_v467 : Ref sig .tc := ⟨.hbm, 602, rfl⟩
abbrev main_v468 : Ref sig .tc := ⟨.hbm, 603, rfl⟩
abbrev main_v469 : Ref sig .tc := ⟨.hbm, 604, rfl⟩
abbrev main_cst_41 : Ref sig .tc := ⟨.hbm, 605, rfl⟩
abbrev main_v470 : Ref sig .tc := ⟨.hbm, 606, rfl⟩
abbrev main_v471 : Ref sig .tc := ⟨.hbm, 607, rfl⟩
abbrev main_cst_42 : Ref sig .tc := ⟨.hbm, 608, rfl⟩
abbrev main_v472 : Ref sig .tc := ⟨.hbm, 609, rfl⟩
abbrev main_v473 : Ref sig .tc := ⟨.hbm, 610, rfl⟩
abbrev main_v474 : Ref sig .tc := ⟨.hbm, 611, rfl⟩
abbrev main_v475 : Ref sig .tc := ⟨.hbm, 612, rfl⟩
abbrev main_v476 : Ref sig .tc := ⟨.hbm, 613, rfl⟩
abbrev main_v477 : Ref sig .tc := ⟨.hbm, 614, rfl⟩
abbrev main_v478 : Ref sig .tc := ⟨.hbm, 615, rfl⟩
abbrev main_v479 : Ref sig .tc := ⟨.hbm, 616, rfl⟩
abbrev main_v480 : Ref sig .tc := ⟨.hbm, 617, rfl⟩
abbrev main_call16_cst : Ref sig .tc := ⟨.hbm, 618, rfl⟩
abbrev main_call16_v0 : Ref sig .tc := ⟨.hbm, 619, rfl⟩
abbrev main_call16_v1 : Ref sig .tc := ⟨.hbm, 620, rfl⟩
abbrev main_call16_v2 : Ref sig .tc := ⟨.hbm, 621, rfl⟩
abbrev main_call16_v3 : Ref sig .tc := ⟨.hbm, 622, rfl⟩
abbrev main_call16_v4 : Ref sig .tc := ⟨.hbm, 623, rfl⟩
abbrev main_call16_v5 : Ref sig .tc := ⟨.hbm, 624, rfl⟩
abbrev main_call16_v6 : Ref sig .tc := ⟨.hbm, 625, rfl⟩
abbrev main_call16_v7 : Ref sig .tc := ⟨.hbm, 626, rfl⟩
abbrev main_call16_v8 : Ref sig .tc := ⟨.hbm, 627, rfl⟩
abbrev main_call16_v9 : Ref sig .tc := ⟨.hbm, 628, rfl⟩
abbrev main_call16_v10 : Ref sig .tc := ⟨.hbm, 629, rfl⟩
abbrev main_call16_v11 : Ref sig .tc := ⟨.hbm, 630, rfl⟩
abbrev main_v481 : Ref sig .tc := ⟨.hbm, 631, rfl⟩
abbrev main_v482 : Ref sig .tc := ⟨.hbm, 632, rfl⟩
abbrev main_v483 : Ref sig .tc := ⟨.hbm, 633, rfl⟩
abbrev main_v484 : Ref sig .tc := ⟨.hbm, 634, rfl⟩
abbrev main_v485 : Ref sig .tc := ⟨.hbm, 635, rfl⟩
abbrev main_v486 : Ref sig .tc := ⟨.hbm, 636, rfl⟩
abbrev main_v487 : Ref sig .tc := ⟨.hbm, 637, rfl⟩
abbrev main_v488 : Ref sig .tc := ⟨.hbm, 638, rfl⟩
abbrev main_v489 : Ref sig .tc := ⟨.hbm, 639, rfl⟩
abbrev main_v490 : Ref sig .tc := ⟨.hbm, 640, rfl⟩
abbrev main_v491 : Ref sig .tc := ⟨.hbm, 641, rfl⟩
abbrev main_call17_call0_cst : Ref sig .tc := ⟨.hbm, 642, rfl⟩
abbrev main_call17_call0_v0 : Ref sig .tc := ⟨.hbm, 643, rfl⟩
abbrev main_v492 : Ref sig .tc := ⟨.hbm, 644, rfl⟩
abbrev main_v493 : Ref sig .tc := ⟨.hbm, 645, rfl⟩
abbrev main_v494 : Ref sig .tc := ⟨.hbm, 646, rfl⟩
abbrev main_v495 : Ref sig .tc := ⟨.hbm, 647, rfl⟩
abbrev main_v496 : Ref sig .tc := ⟨.hbm, 648, rfl⟩
abbrev main_v497 : Ref sig .tc := ⟨.hbm, 649, rfl⟩
abbrev main_c_43 : Ref sig .tc := ⟨.hbm, 650, rfl⟩
abbrev main_v498 : Ref sig .tc := ⟨.hbm, 651, rfl⟩
abbrev main_call18_v0 : Ref sig .tc := ⟨.hbm, 652, rfl⟩
abbrev main_call18_c : Ref sig .tc := ⟨.hbm, 653, rfl⟩
abbrev main_call18_v1 : Ref sig .tc := ⟨.hbm, 654, rfl⟩
abbrev main_call18_v2 : Ref sig .tc := ⟨.hbm, 655, rfl⟩
abbrev main_call18_v3 : Ref sig .tc := ⟨.hbm, 656, rfl⟩
abbrev main_call18_v4 : Ref sig .tc := ⟨.hbm, 657, rfl⟩
abbrev main_call18_c_0 : Ref sig .tc := ⟨.hbm, 658, rfl⟩
abbrev main_call18_v5 : Ref sig .tc := ⟨.hbm, 659, rfl⟩
abbrev main_v499 : Ref sig .tc := ⟨.hbm, 660, rfl⟩
abbrev main_cst_44 : Ref sig .tc := ⟨.hbm, 661, rfl⟩
abbrev main_call19_v0 : Ref sig .tc := ⟨.hbm, 662, rfl⟩
abbrev main_call19_v1 : Ref sig .tc := ⟨.hbm, 663, rfl⟩
abbrev main_call19_v2 : Ref sig .tc := ⟨.hbm, 664, rfl⟩
abbrev main_v500 : Ref sig .tc := ⟨.hbm, 665, rfl⟩
abbrev main_v501 : Ref sig .tc := ⟨.hbm, 666, rfl⟩
abbrev main_v502 : Ref sig .tc := ⟨.hbm, 667, rfl⟩
abbrev main_v503 : Ref sig .tc := ⟨.hbm, 668, rfl⟩
abbrev main_v504 : Ref sig .tc := ⟨.hbm, 669, rfl⟩
abbrev main_v505 : Ref sig .tc := ⟨.hbm, 670, rfl⟩
abbrev main_v506 : Ref sig .tc := ⟨.hbm, 671, rfl⟩
abbrev main_v507 : Ref sig .tc := ⟨.hbm, 672, rfl⟩
abbrev main_v508 : Ref sig .tc := ⟨.hbm, 673, rfl⟩
abbrev main_v509 : Ref sig .tc := ⟨.hbm, 674, rfl⟩
abbrev main_v510 : Ref sig .tc := ⟨.hbm, 675, rfl⟩
abbrev main_v511 : Ref sig .tc := ⟨.hbm, 676, rfl⟩
abbrev main_v512 : Ref sig .tc := ⟨.hbm, 677, rfl⟩
abbrev main_v513 : Ref sig .tc := ⟨.hbm, 678, rfl⟩
abbrev main_v514 : Ref sig .tc := ⟨.hbm, 679, rfl⟩
abbrev main_cst_45 : Ref sig .tc := ⟨.hbm, 680, rfl⟩
abbrev main_v515 : Ref sig .tc := ⟨.hbm, 681, rfl⟩
abbrev main_v516 : Ref sig .tc := ⟨.hbm, 682, rfl⟩
abbrev main_cst_46 : Ref sig .tc := ⟨.hbm, 683, rfl⟩
abbrev main_v517 : Ref sig .tc := ⟨.hbm, 684, rfl⟩
abbrev main_v518 : Ref sig .tc := ⟨.hbm, 685, rfl⟩
abbrev main_v519 : Ref sig .tc := ⟨.hbm, 686, rfl⟩
abbrev main_v520 : Ref sig .tc := ⟨.hbm, 687, rfl⟩
abbrev main_v521 : Ref sig .tc := ⟨.hbm, 688, rfl⟩
abbrev main_cst_47 : Ref sig .tc := ⟨.hbm, 689, rfl⟩
abbrev main_v522 : Ref sig .tc := ⟨.hbm, 690, rfl⟩
abbrev main_v523 : Ref sig .tc := ⟨.hbm, 691, rfl⟩
abbrev main_cst_48 : Ref sig .tc := ⟨.hbm, 692, rfl⟩
abbrev main_v524 : Ref sig .tc := ⟨.hbm, 693, rfl⟩
abbrev main_v525 : Ref sig .tc := ⟨.hbm, 694, rfl⟩
abbrev main_cst_49 : Ref sig .tc := ⟨.hbm, 695, rfl⟩
abbrev main_v526 : Ref sig .tc := ⟨.hbm, 696, rfl⟩
abbrev main_v527 : Ref sig .tc := ⟨.hbm, 697, rfl⟩
abbrev main_v528 : Ref sig .tc := ⟨.hbm, 698, rfl⟩
abbrev main_v529 : Ref sig .tc := ⟨.hbm, 699, rfl⟩
abbrev main_v530 : Ref sig .tc := ⟨.hbm, 700, rfl⟩
abbrev main_v531 : Ref sig .tc := ⟨.hbm, 701, rfl⟩
abbrev main_v532 : Ref sig .tc := ⟨.hbm, 702, rfl⟩
abbrev main_v533 : Ref sig .tc := ⟨.hbm, 703, rfl⟩
abbrev main_v534 : Ref sig .tc := ⟨.hbm, 704, rfl⟩
abbrev main_v535 : Ref sig .tc := ⟨.hbm, 705, rfl⟩

abbrev nD : Nat := 1
abbrev τ : Topo := Topo.v7x

variable {F : FTy → Type} [FloatOps F]
-- ==== Proof.KernelIdeal.Step.lean ====
module

public import proofs.«01_k».proof.Proof.Gen.KernelIdeal.Frame
public import proofs.«01_k».proof.Proof.Gen.KernelIdeal.Skeleton
public import Idealize.ShloMosaic.Lib.VecWindow
public import Idealize.ShloMosaic.Lib.ValueIdx
public import Idealize.ShloMosaic.Lib.Pointwise
public import Idealize.ShloMosaic.Lib.Tactic
public import Idealize.ShloMosaic.Lib.WordCmp
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # One grid point as a function

A grid point reads the parameters of its layer, a block of the residual, the carried state and the last rows of the
previous projection. Each value of the point is a function of these. -/

/-- What a grid point reads. -/
structure Src (F : FTy → Type) where
  /-- Input projection. -/
  inw : Vec F S1x1024x4256 .bf16
  /-- Convolution taps. -/
  cw : Vec F S1x4x2176 .f32
  /-- Convolution bias. -/
  cb : Vec F S1x1x2176 .f32
  /-- Step-size bias. -/
  dtb : Vec F S1x1x32 .f32
  /-- Decay parameter. -/
  alog : Vec F S1x1x32 .f32
  /-- Skip weight. -/
  dd : Vec F S1x1x2048 .f32
  /-- Gate norm weight. -/
  gn : Vec F S1x1x2048 .f32
  /-- Output projection. -/
  outw : Vec F S1x2048x1024 .bf16
  /-- Input norm weight. -/
  rmsw : Vec F S1x1x1024 .f32
  /-- Spread matrix. -/
  ee : Vec F S32x2048 .bf16
  /-- The residual block. -/
  r : Vec F S256x1024 .f32
  /-- The state before. -/
  st : Vec F S64x2048 .f32
  /-- The last eight projected rows before. -/
  tl : Vec F S8x2176 .f32

/-- The output of head `h` on the subtile that starts at row `row`: the masked Gram matrix times the decay between rows,
    against the head's channels. -/
def headOf (row : ℕ) (hr : row + 128 ≤ 256) (xd : FVec F S256x2048 .bf16) (g : FVec F S128x128 .f32) (acs : FVec F S32x128 .f32)
    (acsT : FVec F S128x32 .f32) (h : Fin 32) : Vec F S128x64 .f32 :=
  shapeCast S128x64 (matmul dot_S128x128_S128x64_S128x64_1_0_0_1_n_n none
    (truncf .bf16 (mulf g (exp (minimumf (subf
      (broadcastTo S128x128 (extractStridedSlice S128x1 ![0, h.val] acsT ⟨rfl, by
        have := h.isLt; intro a; fin_cases a <;> simp <;> omega⟩) broadcasts_S128x1_S128x128)
      (broadcastTo S128x128 (extractStridedSlice S1x128 ![h.val, 0] acs ⟨rfl, by
        have := h.isLt; intro a; fin_cases a <;> simp <;> omega⟩) broadcasts_S1x128_S128x128))
      (broadcast S128x128 (Scalar.ofBits .f32 0x00000000#32))))) bitsLt_bf16_f32)
    (extractStridedSlice S128x64 ![row, 64 * h.val] xd ⟨rfl, by
      have := h.isLt; intro a; fin_cases a <;> simp <;> omega⟩)
    (constant S128x64 .f32 0x00000000#32)) shapeCasts_S128x64_S128x64

/-- Thirty-two heads of sixty-four channels side by side. -/
def glue (f : Fin 32 → Vec F S128x64 .f32) : Vec F S128x2048 .f32 :=
  fun y => f ⟨(y 1).val / 64, by have h : (y 1).val < 2048 := (y 1).isLt; omega⟩
    (ValueIdx.ix2 (y 0) ⟨(y 1).val % 64, Nat.mod_lt _ (by decide)⟩)

namespace Src

variable (a : Src F)

/-- The gate columns of the input projection. -/
def z : FVec F S256x2048 .f32 := k0_pay8 a.r a.rmsw a.inw
/-- The columns of the projection that the convolution takes. -/
def xbc : FVec F S256x2176 .f32 := k0_pay9 a.r a.rmsw a.inw
/-- The step-size columns of the projection. -/
def dtr : FVec F S256x32 .f32 := k0_pay10 a.r a.rmsw a.inw
/-- The four convolution taps. -/
def taps : FVec F S4x2176 .f32 := k0_pay11 a.cw
/-- Row numbers of an eight-row block. -/
def row8 : IVec S8x2176 32 := (iota .tc S8x2176 32 [0] iota_S8x2176_d0_w32)
/-- The first eight rows of the convolution: bias and taps 3, 2, 1. -/
def top2 : FVec F S8x2176 .f32 := k0_pay14 a.xbc a.taps a.tl row8 a.cb
/-- The other rows of the convolution: bias and taps 3, 2, 1. -/
def rest2 : FVec F S248x2176 .f32 := k0_pay15 a.xbc a.taps a.cb
/-- The projection turned by three rows. -/
def rot3 : FVec F S256x2176 .f32 := k0_pay16 a.xbc
/-- The convolved and activated channels. -/
def xs : FVec F S256x2048 .f32 := k0_pay19 a.taps a.tl row8 a.top2 a.rest2 a.rot3
/-- The input matrix of the scan. -/
def bm : FVec F S256x64 .bf16 := k0_pay20 a.taps a.tl row8 a.top2 a.rest2 a.rot3
/-- The output matrix of the scan. -/
def cm : FVec F S256x64 .bf16 := k0_pay21 a.taps a.tl row8 a.top2 a.rest2 a.rot3
/-- The step sizes, after softplus. -/
def dt : FVec F S256x32 .f32 := k0_pay22 a.dtr a.dtb
/-- The exponential of the decay parameter. -/
def ea : FVec F S1x32 .f32 := k0_pay23 a.alog
/-- The log decays, heads by rows. -/
def dtA : FVec F S32x256 .f32 := k0_pay24 a.dt a.ea
/-- The head-to-channel spread matrix. -/
def ex : FVec F S32x2048 .bf16 := k0_pay25 a.ee
/-- The channels scaled by their step size. -/
def xd : FVec F S256x2048 .bf16 := k0_pay26 a.xs a.dt a.ee
/-- The lower triangle of a subtile. -/
def tri : IVec S128x128 1 := k0_pay27
/-- Lane numbers. -/
def lane : IVec S32x128 32 := (iota .tc S32x128 32 [1] iota_S32x128_d1_w32)
/-- The running sum of the first subtile after four doublings. -/
def cs16 : FVec F S32x128 .f32 := k0_pay28 a.dt a.ea
/-- The same, turned by sixteen lanes. -/
def cs16r : FVec F S32x128 .f32 := k0_pay29 a.dt a.ea
/-- Sixteen on every lane. -/
def n16 : IVec S32x128 32 := k0_pay30
/-- The running log decay of the first subtile, heads by rows. -/
def acs0 : FVec F S32x128 .f32 := k0_pay31 lane a.cs16 a.cs16r n16
/-- The same, rows by heads. -/
def acsT0 : FVec F S128x32 .f32 := k0_pay32 lane a.cs16 a.cs16r n16
/-- The decay from the subtile start to each row, spread to channels. -/
def grow0 : FVec F S128x2048 .f32 := k0_pay34 a.ex lane a.cs16 a.cs16r n16
/-- The decay over the whole subtile, spread to channels. -/
def tot0 : FVec F S1x2048 .f32 := k0_pay35 a.ex lane a.cs16 a.cs16r n16
/-- The first subtile of the input matrix. -/
def b0 : FVec F S128x64 .bf16 := k0_pay36 a.bm
/-- The masked Gram matrix of the first subtile. -/
def g0 : FVec F S128x128 .f32 := k0_pay38 a.bm a.cm tri
/-- The output matrix against the state before. -/
def cst0 : FVec F S128x2048 .f32 := k0_pay39 a.cm a.st
/-- The scaled channels weighted by the decay to the subtile end. -/
def xw0 : FVec F S128x2048 .bf16 := k0_pay40 a.ex a.xd lane a.cs16 a.cs16r n16
/-- The state after the first subtile. -/
def st1 : Vec F S64x2048 .f32 := k0_pay84 a.tot0 a.b0 a.st a.xw0
/-- The heads of the first subtile. -/
def hd0 : Fin 32 → Vec F S128x64 .f32 := headOf 0 (by decide) a.xd a.g0 a.acs0 a.acsT0
/-- All heads of the first subtile. -/
def y0 : Vec F S128x2048 .f32 := glue a.hd0
/-- The output of the first subtile before the gate. -/
def ys0 : FVec F S128x2048 .f32 := k0_pay85 a.xs a.grow0 a.cst0 a.y0 a.dd
/-- The log decays of the second subtile. -/
def dtA1 : FVec F S32x128 .f32 := k0_pay89 a.dtA
/-- Lane numbers. -/
def lane1 : IVec S32x128 32 := (iota .tc S32x128 32 [1] iota_S32x128_d1_w32)
/-- The log decays turned by one lane. -/
def rot1 : FVec F S32x128 .f32 := k0_pay90 a.dtA
/-- The lanes below one. -/
def lt1 : IVec S32x128 1 := k0_pay91
/-- Zeros. -/
def zz : FVec F S32x128 .f32 := k0_pay92 (F := F)
/-- The running log decay of the second subtile, heads by rows. -/
def acs1 : FVec F S32x128 .f32 := k0_pay93 a.dtA1 lane1 a.rot1 lt1 zz
/-- The same, rows by heads. -/
def acsT1 : FVec F S128x32 .f32 := k0_pay94 a.dtA1 lane1 a.rot1 lt1 zz
/-- The log decay over the whole second subtile. -/
def totA1 : FVec F S1x32 .f32 := k0_pay95 a.dtA1 lane1 a.rot1 lt1 zz
/-- The decay from the subtile start. -/
def eacs1 : FVec F S128x32 .f32 := k0_pay96 a.dtA1 lane1 a.rot1 lt1 zz
/-- The log decay over the subtile, on every row. -/
def totAb1 : FVec F S128x32 .f32 := k0_pay97 a.dtA1 lane1 a.rot1 lt1 zz
/-- The decay from the subtile start to each row, spread to channels. -/
def grow1 : FVec F S128x2048 .f32 := k0_pay98 a.ex a.eacs1
/-- The decay over the whole subtile, spread to channels. -/
def tot1 : FVec F S1x2048 .f32 := k0_pay99 a.ex a.totA1
/-- The second subtile of the input matrix. -/
def b1 : FVec F S128x64 .bf16 := k0_pay100 a.bm
/-- The masked Gram matrix of the second subtile. -/
def g1 : FVec F S128x128 .f32 := k0_pay102 a.bm a.cm tri
/-- The output matrix against the state after the first subtile. -/
def cst1 : FVec F S128x2048 .f32 := k0_pay103 a.cm a.st1
/-- The scaled channels weighted by the decay to the subtile end. -/
def xw1 : FVec F S128x2048 .bf16 := k0_pay104 a.ex a.xd a.acsT1 a.totAb1
/-- The state after the second subtile. -/
def st2 : Vec F S64x2048 .f32 := k0_pay159 a.tot1 a.b1 a.st1 a.xw1
/-- The heads of the second subtile. -/
def hd1 : Fin 32 → Vec F S128x64 .f32 := headOf 128 (by decide) a.xd a.g1 a.acs1 a.acsT1
/-- All heads of the second subtile. -/
def y1 : Vec F S128x2048 .f32 := glue a.hd1
/-- The gated and normalised output of the second subtile. -/
def ys1 : FVec F S128x2048 .bf16 := k0_pay160 a.z a.xs a.grow1 a.cst1 a.y1 a.dd a.gn
/-- The first half of the new residual block. -/
def lo : Vec F S128x1024 .f32 := k0_pay87 a.r a.z a.ys0 a.gn a.outw
/-- The second half of the new residual block. -/
def hi : Vec F S128x1024 .f32 := k0_pay2 a.r a.ys1 a.outw
/-- The last eight projected rows. -/
def tl' : Vec F S8x2176 .f32 := k0_pay17 a.xbc
/-- The new residual block. -/
def blk : Vec F S256x1024 .f32 :=
  VecWindow.put (VecWindow.put a.r ![0, 0] S128x1024.size a.lo) ![128, 0] S128x1024.size a.hi
/-- The block handed out: the two halves one above the other. -/
def outb : Vec F S1x256x1024 .f32 := fun y => a.blk (ValueIdx.ix2 (y 1) (y 2))

end Src

end Cert.KernelIdeal
-- ==== Proof.KernelIdeal.Body.lean ====
module

public import proofs.«01_k».proof.Proof.Gen.KernelIdeal.Frame
public import proofs.«01_k».proof.Proof.Gen.KernelIdeal.Skeleton
public import proofs.«01_k».proof.Proof.KernelIdeal.Step
public import Idealize.ShloMosaic.Lib.VecWindow
public import Idealize.ShloMosaic.Lib.ValueIdx
public import Idealize.ShloMosaic.Lib.Pointwise
public import Idealize.ShloMosaic.Lib.Tactic
public import Idealize.ShloMosaic.Lib.WordCmp
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # One grid point run

The body of the kernel at a grid point, on buffers that hold known contents: it leaves the inputs as they were and the
outputs and scratches at the values of `Proof/KernelIdeal/Step.lean`. -/

/-- The condition that the point starts a sequence. -/
abbrev first (i : grid0.Coords) : Prop :=
  (Scalar.cmpi .ne (Scalar.extui (Scalar.cmpi .eq (BitVec.ofNat 32 (i 2).val) 0#32)) 0#32) = 1#1

open Classical in
/-- The residual buffer when the point's arithmetic starts: in the first layer the point's block is the input's. -/
def res0 (i : grid0.Coords) (x : Vec F S1x256x1024 .f32) (R : Vec F S2048x1024 .f32) : Vec F S2048x1024 .f32 :=
  if k0_cond2 i = 1#1 then VecWindow.put R (k0_off1 i) S256x1024.size (k0_pay6 x) else R

open Classical in
/-- What a grid point reads, from the contents of its buffers. -/
def srcOf (i : grid0.Coords) (x3 : Vec F S1x256x1024 .f32) (x4 : Vec F S1x1024x4256 .bf16) (x5 : Vec F S1x4x2176 .f32) (x6 : Vec F S1x1x2176 .f32) (x7 : Vec F S1x1x32 .f32) (x8 : Vec F S1x1x32 .f32) (x9 : Vec F S1x1x2048 .f32) (x10 : Vec F S1x1x2048 .f32) (x11 : Vec F S1x2048x1024 .bf16) (x12 : Vec F S1x1x1024 .f32) (x13 : Vec F S32x2048 .bf16)
    (x15 : Vec F S2048x1024 .f32) (x16 : Vec F S64x2048 .f32) (x17 : Vec F S8x2176 .f32) : Src F where
  inw := x4
  cw := x5
  cb := x6
  dtb := x7
  alog := x8
  dd := x9
  gn := x10
  outw := x11
  rmsw := x12
  ee := x13
  r := VecWindow.window (res0 i x3 x15) (k0_off2 i) S256x1024.size (k0_off2_inb i)
  st := if first i then k0_pay4 (F := F) else x16
  tl := if first i then k0_pay5 (F := F) else x17

/-- The residual buffer after the point: the two halves of its block replaced. -/
def res1 (i : grid0.Coords) (a : Src F) (R : Vec F S2048x1024 .f32) : Vec F S2048x1024 .f32 :=
  VecWindow.put (VecWindow.put R (k0_off3 i 0#32) S128x1024.size a.lo) (k0_off3 i 128#32) S128x1024.size a.hi

/-- A load of exactly the rectangle just stored reads what was stored. -/
theorem readCov_same {κ : Kind} {sp : Space} {s : Shape} {e : EltTy} (v : View sig κ sp s e) {off off' size : Fin s.rank → ℕ}
    (inb : ∀ a, off a + size a ≤ s.size a) (inb' : ∀ a, off' a + size a ≤ s.size a) (h : off' = off)
    (w : (Rect.unit off size inb).shape.Idx → Elt F e) (L : List (View.Piece (Elt F) s e)) :
    v.readCov (⟨Rect.unit off size inb, w⟩ :: L) (Rect.unit off' size inb').toLoadRect = w := by
  subst h
  refine (View.readAt_unit v _ inb' rfl inb').trans ?_
  rw [View.read_writes_cons_put v _ inb w L rfl]
  exact VecWindow.window_put_same _ _ _ _ _

section
variable (c : Dev nD) (i : grid0.Coords) (arg3 : Memref sig .tc .vmem S1x256x1024 .f32) (harg3 : arg3.IsWhole) (arg4 : Memref sig .tc .vmem S1x1024x4256 .bf16) (harg4 : arg4.IsWhole) (arg5 : Memref sig .tc .vmem S1x4x2176 .f32) (harg5 : arg5.IsWhole) (arg6 : Memref sig .tc .vmem S1x1x2176 .f32) (harg6 : arg6.IsWhole) (arg7 : Memref sig .tc .vmem S1x1x32 .f32) (harg7 : arg7.IsWhole) (arg8 : Memref sig .tc .vmem S1x1x32 .f32) (harg8 : arg8.IsWhole) (arg9 : Memref sig .tc .vmem S1x1x2048 .f32) (harg9 : arg9.IsWhole) (arg10 : Memref sig .tc .vmem S1x1x2048 .f32) (harg10 : arg10.IsWhole) (arg11 : Memref sig .tc .vmem S1x2048x1024 .bf16) (harg11 : arg11.IsWhole) (arg12 : Memref sig .tc .vmem S1x1x1024 .f32) (harg12 : arg12.IsWhole) (arg13 : Memref sig .tc .vmem S32x2048 .bf16) (harg13 : arg13.IsWhole) (arg14 : Memref sig .tc .vmem S1x256x1024 .f32) (harg14 : arg14.IsWhole) (arg15 : Memref sig .tc .vmem S2048x1024 .f32) (harg15 : arg15.IsWhole) (arg16 : Memref sig .tc .vmem S64x2048 .f32) (harg16 : arg16.IsWhole) (arg17 : Memref sig .tc .vmem S8x2176 .f32) (harg17 : arg17.IsWhole) (arg18 : Memref sig .tc .vmem S256x2048 .f32) (harg18 : arg18.IsWhole)
  (x3 : Vec F S1x256x1024 .f32) (x4 : Vec F S1x1024x4256 .bf16) (x5 : Vec F S1x4x2176 .f32) (x6 : Vec F S1x1x2176 .f32) (x7 : Vec F S1x1x32 .f32) (x8 : Vec F S1x1x32 .f32) (x9 : Vec F S1x1x2048 .f32) (x10 : Vec F S1x1x2048 .f32) (x11 : Vec F S1x2048x1024 .bf16) (x12 : Vec F S1x1x1024 .f32) (x13 : Vec F S32x2048 .bf16) (x14 : Vec F S1x256x1024 .f32) (x15 : Vec F S2048x1024 .f32) (x16 : Vec F S64x2048 .f32) (x17 : Vec F S8x2176 .f32) (x18 : Vec F S256x2048 .f32)

set_option maxHeartbeats 1000000 in
/-- The first stretch of the body: the conditional initialisations, then the loads and the input projection. -/
theorem part1_spec (E : Set ℕ) :
    (iprop((arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg12.view.loc (c : Thread nD τ) ↦[arg12.view.set]{fullShare} arg12.view.rep x12) ∗ (arg15.view.loc (c : Thread nD τ) ↦[arg15.view.set]{fullShare} arg15.view.rep x15) ∗ (arg16.view.loc (c : Thread nD τ) ↦[arg16.view.set]{fullShare} arg16.view.rep x16) ∗ (arg17.view.loc (c : Thread nD τ) ↦[arg17.view.set]{fullShare} arg17.view.rep x17)) : sProp 𝕄)
      ⊢ wp frame (wpE (defs₀ (F := F)) Variants.none c none) E (k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun q => iprop((arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg12.view.loc (c : Thread nD τ) ↦[arg12.view.set]{fullShare} arg12.view.rep x12) ∗ (arg15.view.loc (c : Thread nD τ) ↦[arg15.view.set]{fullShare} arg15.view.rep (res0 i x3 x15))
          ∗ (arg16.view.loc (c : Thread nD τ) ↦[arg16.view.set]{fullShare} arg16.view.rep (srcOf i x3 x4 x5 x6 x7 x8 x9 x10 x11 x12 x13 x15 x16 x17).st) ∗ (arg17.view.loc (c : Thread nD τ) ↦[arg17.view.set]{fullShare} arg17.view.rep (srcOf i x3 x4 x5 x6 x7 x8 x9 x10 x11 x12 x13 x15 x16 x17).tl)
          ∗ ⌜q.1 = BitVec.ofNat 32 (i 2).val⌝ ∗ ⌜q.2.1 = (srcOf i x3 x4 x5 x6 x7 x8 x9 x10 x11 x12 x13 x15 x16 x17).r⌝ ∗ ⌜q.2.2.1 = (srcOf i x3 x4 x5 x6 x7 x8 x9 x10 x11 x12 x13 x15 x16 x17).z⌝ ∗ ⌜q.2.2.2.1 = (srcOf i x3 x4 x5 x6 x7 x8 x9 x10 x11 x12 x13 x15 x16 x17).xbc⌝ ∗ ⌜q.2.2.2.2.1 = (srcOf i x3 x4 x5 x6 x7 x8 x9 x10 x11 x12 x13 x15 x16 x17).dtr⌝
          ∗ ⌜q.2.2.2.2.2.1 = (srcOf i x3 x4 x5 x6 x7 x8 x9 x10 x11 x12 x13 x15 x16 x17).taps⌝ ∗ ⌜q.2.2.2.2.2.2.1 = (srcOf i x3 x4 x5 x6 x7 x8 x9 x10 x11 x12 x13 x15 x16 x17).tl⌝ ∗ ⌜q.2.2.2.2.2.2.2 = Src.row8⌝)) := by
  have h3 : ∀ inb, arg3.view.readAt (Elt F) (Rect.unit (s := S1x256x1024) ![0, 0, 0] S1x256x1024.size inb).toLoadRect (arg3.view.rep x3) = x3 :=
    fun inb => View.readAt_rep_full _ _ inb
  have h4 : ∀ inb, arg4.view.readAt (Elt F) (Rect.unit (s := S1x1024x4256) ![0, 0, 0] S1x1024x4256.size inb).toLoadRect (arg4.view.rep x4) = x4 :=
    fun inb => View.readAt_rep_full _ _ inb
  have h5 : ∀ inb, arg5.view.readAt (Elt F) (Rect.unit (s := S1x4x2176) ![0, 0, 0] S1x4x2176.size inb).toLoadRect (arg5.view.rep x5) = x5 :=
    fun inb => View.readAt_rep_full _ _ inb
  have h12 : ∀ inb, arg12.view.readAt (Elt F) (Rect.unit (s := S1x1x1024) ![0, 0, 0] S1x1x1024.size inb).toLoadRect (arg12.view.rep x12) = x12 :=
    fun inb => View.readAt_rep_full _ _ inb
  have h17 : ∀ inb, arg17.view.readAt (Elt F) (Rect.unit (s := S8x2176) ![0, 0] S8x2176.size inb).toLoadRect (arg17.view.rep x17) = x17 :=
    fun inb => View.readAt_rep_full _ _ inb
  have rp : k0_cond2 i = 1#1 → ∀ inb inb', arg15.view.readCov [⟨Rect.unit (s := S2048x1024) (k0_off1 i) S256x1024.size inb, k0_pay6 x3⟩]
      (Rect.unit (s := S2048x1024) (k0_off2 i) S256x1024.size inb').toLoadRect = (srcOf i x3 x4 x5 x6 x7 x8 x9 x10 x11 x12 x13 x15 x16 x17).r := fun h inb inb' => by
    rw [readCov_same _ inb inb' rfl]; unfold srcOf res0; rw [if_pos h]; exact (VecWindow.window_put_same x15 _ _ inb' _).symm
  have rn : ¬ k0_cond2 i = 1#1 → ∀ inb, arg15.view.readAt (Elt F) (Rect.unit (s := S2048x1024) (k0_off2 i) S256x1024.size inb).toLoadRect (arg15.view.rep x15)
      = (srcOf i x3 x4 x5 x6 x7 x8 x9 x10 x11 x12 x13 x15 x16 x17).r := fun h inb => by
    rw [View.readAt_rep_unit _ _ inb rfl inb]; unfold srcOf res0; rw [if_neg h]
  have Rp : k0_cond2 i = 1#1 → ∀ inb, (arg15.view.loc (c : Thread nD τ) ↦[arg15.view.set]{fullShare} arg15.view.writes (Elt F) (arg15.view.rep x15) [⟨Rect.unit (s := S2048x1024) (k0_off1 i) S256x1024.size inb, k0_pay6 x3⟩])
      ⊢ ((arg15.view.loc (c : Thread nD τ) ↦[arg15.view.set]{fullShare} arg15.view.rep (res0 i x3 x15)) : sProp 𝕄) := fun h inb => by
    refine pointsTo_rep_of_read (c : Thread nD τ) arg15 _ fullShare _ ?_
    rw [View.read_writes_rep_unit _ _ inb _ rfl]; unfold res0; rw [if_pos h]
  have Rn : ¬ k0_cond2 i = 1#1 → (arg15.view.loc (c : Thread nD τ) ↦[arg15.view.set]{fullShare} arg15.view.rep x15) ⊢ ((arg15.view.loc (c : Thread nD τ) ↦[arg15.view.set]{fullShare} arg15.view.rep (res0 i x3 x15)) : sProp 𝕄) := fun h => by
    unfold res0; rw [if_neg h]
  have Sp : first i → ∀ inb, (arg16.view.loc (c : Thread nD τ) ↦[arg16.view.set]{fullShare} arg16.view.writes (Elt F) (arg16.view.rep x16) [⟨Rect.unit (s := S64x2048) ![0, 0] S64x2048.size inb, k0_pay4⟩])
      ⊢ ((arg16.view.loc (c : Thread nD τ) ↦[arg16.view.set]{fullShare} arg16.view.rep (srcOf i x3 x4 x5 x6 x7 x8 x9 x10 x11 x12 x13 x15 x16 x17).st) : sProp 𝕄) := fun h inb => by
    refine pointsTo_rep_of_read (c : Thread nD τ) arg16 _ fullShare _ ?_
    rw [View.read_writes_full]; exact (if_pos h).symm
  have Sn : ¬ first i → (arg16.view.loc (c : Thread nD τ) ↦[arg16.view.set]{fullShare} arg16.view.rep x16) ⊢ ((arg16.view.loc (c : Thread nD τ) ↦[arg16.view.set]{fullShare} arg16.view.rep (srcOf i x3 x4 x5 x6 x7 x8 x9 x10 x11 x12 x13 x15 x16 x17).st) : sProp 𝕄) := fun h => by
    rw [show (srcOf i x3 x4 x5 x6 x7 x8 x9 x10 x11 x12 x13 x15 x16 x17).st = x16 from if_neg h]
  have Tp : first i → ∀ inb, (arg17.view.loc (c : Thread nD τ) ↦[arg17.view.set]{fullShare} arg17.view.writes (Elt F) (arg17.view.rep x17) [⟨Rect.unit (s := S8x2176) ![0, 0] S8x2176.size inb, k0_pay5⟩])
      ⊢ ((arg17.view.loc (c : Thread nD τ) ↦[arg17.view.set]{fullShare} arg17.view.rep (srcOf i x3 x4 x5 x6 x7 x8 x9 x10 x11 x12 x13 x15 x16 x17).tl) : sProp 𝕄) := fun h inb => by
    refine pointsTo_rep_of_read (c : Thread nD τ) arg17 _ fullShare _ ?_
    rw [View.read_writes_full]; exact (if_pos h).symm
  have Tn : ¬ first i → (arg17.view.loc (c : Thread nD τ) ↦[arg17.view.set]{fullShare} arg17.view.rep x17) ⊢ ((arg17.view.loc (c : Thread nD τ) ↦[arg17.view.set]{fullShare} arg17.view.rep (srcOf i x3 x4 x5 x6 x7 x8 x9 x10 x11 x12 x13 x15 x16 x17).tl) : sProp 𝕄) := fun h => by
    rw [show (srcOf i x3 x4 x5 x6 x7 x8 x9 x10 x11 x12 x13 x15 x16 x17).tl = x17 from if_neg h]
  have tp : first i → ∀ inb inb', arg17.view.readCov [⟨Rect.unit (s := S8x2176) ![0, 0] S8x2176.size inb, k0_pay5⟩]
      (Rect.unit (s := S8x2176) ![0, 0] S8x2176.size inb').toLoadRect = (srcOf i x3 x4 x5 x6 x7 x8 x9 x10 x11 x12 x13 x15 x16 x17).tl := fun h inb inb' => by
    rw [View.readCov_full]; exact (if_pos h).symm
  have tn : ¬ first i → x17 = (srcOf i x3 x4 x5 x6 x7 x8 x9 x10 x11 x12 x13 x15 x16 x17).tl := fun h => (if_neg h).symm
  simp only [k0_part1_eq_skeleton]; unfold k0_part1_skel
  by_cases hc0 : first i <;> by_cases hc1 : k0_cond2 i = 1#1
  all_goals
    iintro ⟨H3, H4, H5, H12, H15, H16, H17⟩
    sl_exec (disch := first | sl_exact hc0 | sl_exact hc1)
    sl_step
    isplitl [H3]; · iexact H3
    isplitl [H4]; · iexact H4
    isplitl [H5]; · iexact H5
    isplitl [H12]; · iexact H12
    isplitl [H15]
    · first
      | (iapply Rp hc1 _; iexact H15)
      | (iapply Rn hc1; iexact H15)
    isplitl [H16]
    · first
      | (iapply Sp hc0 _; iexact H16)
      | (iapply Sn hc0; iexact H16)
    isplitl [H17]
    · first
      | (iapply Tp hc0 _; iexact H17)
      | (iapply Tn hc0; iexact H17)
    isplitr; · ipureintro; rfl
    isplitr; · ipureintro; first | exact rp hc1 _ _ | exact rn hc1 _
    isplitr; · ipureintro; first | exact congrArg (k0_pay8 · x12 x4) (rp hc1 _ _) | exact congrArg (k0_pay8 · x12 x4) (rn hc1 _)
    isplitr; · ipureintro; first | exact congrArg (k0_pay9 · x12 x4) (rp hc1 _ _) | exact congrArg (k0_pay9 · x12 x4) (rn hc1 _)
    isplitr; · ipureintro; first | exact congrArg (k0_pay10 · x12 x4) (rp hc1 _ _) | exact congrArg (k0_pay10 · x12 x4) (rn hc1 _)
    isplitr; · ipureintro; rfl
    isplitr; · ipureintro; first | exact tp hc0 _ _ | exact tn hc0
    ipureintro; rfl
end

/-- The stores of the first `n` heads of the subtile at row `row`, the last one first, before the stores `L`. -/
def headPieces (row : ℕ) (hr : row + 128 ≤ 256) (f : Fin 32 → Vec F S128x64 .f32) (L : List (View.Piece (Elt F) S256x2048 .f32)) :
    (n : ℕ) → n ≤ 32 → List (View.Piece (Elt F) S256x2048 .f32)
  | 0, _ => L
  | n + 1, h => ⟨Rect.unit (s := S256x2048) ![row, 64 * n] S128x64.size (by intro a; fin_cases a <;> simp <;> omega), f ⟨n, h⟩⟩
      :: headPieces row hr f L n (Nat.le_of_succ_le h)

/-- What a view reads after the stores of the first `n` heads. -/
theorem read_headPieces {κ : Kind} {sp : Space} (v : View sig κ sp S256x2048 .f32) (g : v.ty.Contents (Elt F)) (row : ℕ) (hr : row + 128 ≤ 256)
    (f : Fin 32 → Vec F S128x64 .f32) (L : List (View.Piece (Elt F) S256x2048 .f32)) (n : ℕ) (h : n ≤ 32) (p : Fin 256) (q : Fin 2048)
    (p' : Fin 128) (hp : p.val = row + p'.val) (hq : q.val < 64 * n) :
    v.read (Elt F) (v.writes (Elt F) g (headPieces row hr f L n h)) (ValueIdx.ix2 p q)
      = f ⟨q.val / 64, by omega⟩ (ValueIdx.ix2 p' ⟨q.val % 64, Nat.mod_lt _ (by decide)⟩) := by
  induction n with
  | zero => omega
  | succ n ih =>
    rw [headPieces, View.read_writes_cons_put v g _ _ _ rfl]
    unfold VecWindow.put
    by_cases hn : 64 * n ≤ q.val
    · have e : (⟨q.val / 64, by omega⟩ : Fin 32) = ⟨n, h⟩ := Fin.ext (by show q.val / 64 = n; omega)
      have hin : ∀ a, ![row, 64 * n] a ≤ (ValueIdx.ix2 p q a).val ∧ (ValueIdx.ix2 p q a).val < ![row, 64 * n] a + S128x64.size a := by
        intro a
        fin_cases a
        · exact ⟨by show row ≤ p.val; omega, by show p.val < row + 128; omega⟩
        · exact ⟨hn, by show q.val < 64 * n + 64; omega⟩
      rw [dif_pos hin, e]
      refine congrArg (f ⟨n, h⟩) (funext fun a => ?_)
      fin_cases a
      · exact Fin.ext (by show p.val - row = p'.val; omega)
      · exact Fin.ext (by show q.val - 64 * n = q.val % 64; omega)
    · rw [dif_neg (fun hall => hn (hall 1).1)]
      exact ih _ (by omega)

/-- A load of a whole subtile after the stores of its heads reads the heads side by side. -/
theorem readCov_heads {κ : Kind} {sp : Space} (v : View sig κ sp S256x2048 .f32) (row : ℕ) (hr : row + 128 ≤ 256)
    (f : Fin 32 → Vec F S128x64 .f32) (L : List (View.Piece (Elt F) S256x2048 .f32)) (inb : ∀ a, ![row, 0] a + S128x2048.size a ≤ S256x2048.size a) :
    v.readCov (headPieces row hr f L 32 le_rfl) (Rect.unit (s := S256x2048) ![row, 0] S128x2048.size inb).toLoadRect = glue f := by
  refine (View.readAt_unit v _ inb rfl inb).trans (funext fun z => ?_)
  have h0 : (z 0).val < 128 := (z 0).isLt
  have h1 : (z 1).val < 2048 := (z 1).isLt
  have e : (Rect.unit (s := S256x2048) ![row, 0] S128x2048.size inb).emb z = ValueIdx.ix2 ⟨row + (z 0).val, by omega⟩ ⟨(z 1).val, h1⟩ := by
    funext a
    fin_cases a
    · exact Fin.ext (by show row + 1 * (z 0).val = row + (z 0).val; omega)
    · exact Fin.ext (by show 0 + 1 * (z 1).val = (z 1).val; omega)
  show v.read (Elt F) _ ((Rect.unit (s := S256x2048) ![row, 0] S128x2048.size inb).emb z) = _
  rw [e]
  exact read_headPieces v _ row hr f L 32 le_rfl _ _ ⟨(z 0).val, h0⟩ rfl (by show (z 1).val < 64 * 32; omega)

/-- The first half handed out is the first half kept. -/
theorem pay88_apply (r : Vec F S256x1024 .f32) (z : FVec F S256x2048 .f32) (ys : FVec F S128x2048 .f32) (gn : Vec F S1x1x2048 .f32)
    (ow : Vec F S1x2048x1024 .bf16) (p : Fin 128) (q : Fin 1024) :
    k0_pay88 r z ys gn ow (ValueIdx.ix3 0 p q) = k0_pay87 r z ys gn ow (ValueIdx.ix2 p q) := by
  unfold k0_pay88 k0_pay87
  pointwise []
  rfl

/-- The second half handed out is the second half kept. -/
theorem pay3_apply (r : Vec F S256x1024 .f32) (ys : FVec F S128x2048 .bf16)
    (ow : Vec F S1x2048x1024 .bf16) (p : Fin 128) (q : Fin 1024) :
    k0_pay3 r ys ow (ValueIdx.ix3 0 p q) = k0_pay2 r ys ow (ValueIdx.ix2 p q) := by
  unfold k0_pay3 k0_pay2
  pointwise []
  rfl

/-- The output buffer after the two stores of a point holds the point's block. -/
theorem read_out (a : Src F) {κ : Kind} {sp : Space} (v : View sig κ sp S1x256x1024 .f32) (g : v.ty.Contents (Elt F))
    (y0 y1 : Vec F S128x2048 .f32) (s1 : Vec F S64x2048 .f32) (e0 : y0 = a.y0) (e1 : y1 = a.y1) (es : s1 = a.st1)
    (inb : ∀ d, ![0, 128, 0] d + S1x128x1024.size d ≤ S1x256x1024.size d) (inb' : ∀ d, ![0, 0, 0] d + S1x128x1024.size d ≤ S1x256x1024.size d) :
    v.read (Elt F) (v.writes (Elt F) g
      [⟨Rect.unit (s := S1x256x1024) ![0, 128, 0] S1x128x1024.size inb,
          k0_pay3 a.r (k0_pay160 a.z a.xs a.grow1 (k0_pay103 a.cm s1) y1 a.dd a.gn) a.outw⟩,
        ⟨Rect.unit (s := S1x256x1024) ![0, 0, 0] S1x128x1024.size inb',
          k0_pay88 a.r a.z (k0_pay85 a.xs a.grow0 a.cst0 y0 a.dd) a.gn a.outw⟩]) = a.outb := by
  subst e0 e1 es
  rw [View.read_writes_cons_put v g inb _ _ rfl, View.read_writes_cons_put v g inb' _ _ rfl]
  funext y
  have hy0 : (y 0).val < 1 := (y 0).isLt
  have hy1 : (y 1).val < 256 := (y 1).isLt
  have hy2 : (y 2).val < 1024 := (y 2).isLt
  unfold Src.outb Src.blk VecWindow.put
  by_cases hh : 128 ≤ (y 1).val
  · have h3 : ∀ d : Fin S1x256x1024.rank, ![0, 128, 0] d ≤ (y d).val ∧ (y d).val < ![0, 128, 0] d + S1x128x1024.size d := by
      intro d
      fin_cases d
      · exact ⟨Nat.zero_le _, by show (y 0).val < 0 + 1; omega⟩
      · exact ⟨hh, by show (y 1).val < 128 + 128; omega⟩
      · exact ⟨Nat.zero_le _, by show (y 2).val < 0 + 1024; omega⟩
    have h2 : ∀ d : Fin S256x1024.rank, ![128, 0] d ≤ (ValueIdx.ix2 (y 1) (y 2) d).val ∧ (ValueIdx.ix2 (y 1) (y 2) d).val < ![128, 0] d + S128x1024.size d := by
      intro d
      fin_cases d
      · exact ⟨hh, by show (y 1).val < 128 + 128; omega⟩
      · exact ⟨Nat.zero_le _, by show (y 2).val < 0 + 1024; omega⟩
    refine (dif_pos h3).trans (Eq.trans ?_ (dif_pos h2).symm)
    refine Eq.trans (congrArg _ (funext fun d => ?_)) ((pay3_apply a.r a.ys1 a.outw ⟨(y 1).val - 128, by omega⟩ ⟨(y 2).val, hy2⟩).trans
      (congrArg _ (funext fun d => ?_)))
    · fin_cases d
      · exact Fin.ext (by show (y 0).val - 0 = 0; omega)
      · rfl
      · exact Fin.ext (by show (y 2).val - 0 = (y 2).val; omega)
    · fin_cases d
      · rfl
      · exact Fin.ext (by show (y 2).val = (y 2).val - 0; omega)
  · have h3 : ∀ d : Fin S1x256x1024.rank, ![0, 0, 0] d ≤ (y d).val ∧ (y d).val < ![0, 0, 0] d + S1x128x1024.size d := by
      intro d
      fin_cases d
      · exact ⟨Nat.zero_le _, by show (y 0).val < 0 + 1; omega⟩
      · exact ⟨Nat.zero_le _, by show (y 1).val < 0 + 128; omega⟩
      · exact ⟨Nat.zero_le _, by show (y 2).val < 0 + 1024; omega⟩
    have h2 : ∀ d : Fin S256x1024.rank, ![0, 0] d ≤ (ValueIdx.ix2 (y 1) (y 2) d).val ∧ (ValueIdx.ix2 (y 1) (y 2) d).val < ![0, 0] d + S128x1024.size d := by
      intro d
      fin_cases d
      · exact ⟨Nat.zero_le _, by show (y 1).val < 0 + 128; omega⟩
      · exact ⟨Nat.zero_le _, by show (y 2).val < 0 + 1024; omega⟩
    have n2 : ¬ ∀ d : Fin S256x1024.rank, ![128, 0] d ≤ (ValueIdx.ix2 (y 1) (y 2) d).val ∧ (ValueIdx.ix2 (y 1) (y 2) d).val < ![128, 0] d + S128x1024.size d :=
      fun hall => hh (hall 0).1
    refine (dif_neg fun hall => hh (hall 1).1).trans ((dif_pos h3).trans (Eq.trans ?_ ((dif_neg n2).trans (dif_pos h2)).symm))
    refine Eq.trans (congrArg _ (funext fun d => ?_)) ((pay88_apply a.r a.z a.ys0 a.gn a.outw ⟨(y 1).val, by omega⟩ ⟨(y 2).val, hy2⟩).trans
      (congrArg _ (funext fun d => ?_)))
    · fin_cases d
      · exact Fin.ext (by show (y 0).val - 0 = 0; omega)
      · exact Fin.ext (by show (y 1).val - 0 = (y 1).val; omega)
      · exact Fin.ext (by show (y 2).val - 0 = (y 2).val; omega)
    · fin_cases d
      · exact Fin.ext (by show (y 1).val = (y 1).val - 0; omega)
      · exact Fin.ext (by show (y 2).val = (y 2).val - 0; omega)

/-- The state after the first half of a point, read back. -/
theorem st1_read (a : Src F) {κ : Kind} {sp : Space} (v : View sig κ sp S64x2048 .f32)
    (inb : ∀ d, ![0, 0] d + S64x2048.size d ≤ S64x2048.size d) (inb' : ∀ d, ![0, 0] d + S64x2048.size d ≤ S64x2048.size d) :
    v.readCov [⟨Rect.unit (s := S64x2048) ![0, 0] S64x2048.size inb', (a.st1 : Vec F S64x2048 .f32)⟩]
      (Rect.unit (s := S64x2048) ![0, 0] S64x2048.size inb).toLoadRect = a.st1 :=
  View.readCov_full _ _ _ _ _

/-- The residual buffer after the two stores of a point. -/
theorem read_res (i : grid0.Coords) (a : Src F) {κ : Kind} {sp : Space} (v : View sig κ sp S2048x1024 .f32) (R : Vec F S2048x1024 .f32)
    (y0 y1 : Vec F S128x2048 .f32) (s1 : Vec F S64x2048 .f32) (e0 : y0 = a.y0) (e1 : y1 = a.y1) (es : s1 = a.st1)
    (inb : ∀ d, k0_off3 i 128#32 d + S128x1024.size d ≤ S2048x1024.size d) (inb' : ∀ d, k0_off3 i 0#32 d + S128x1024.size d ≤ S2048x1024.size d) :
    v.read (Elt F) (v.writes (Elt F) (v.rep R)
      [⟨Rect.unit (s := S2048x1024) (k0_off3 i 128#32) S128x1024.size inb,
          k0_pay2 a.r (k0_pay160 a.z a.xs a.grow1 (k0_pay103 a.cm s1) y1 a.dd a.gn) a.outw⟩,
        ⟨Rect.unit (s := S2048x1024) (k0_off3 i 0#32) S128x1024.size inb',
          k0_pay87 a.r a.z (k0_pay85 a.xs a.grow0 a.cst0 y0 a.dd) a.gn a.outw⟩]) = res1 i a R := by
  subst e0 e1 es
  rw [View.read_writes_cons_put v _ inb _ _ rfl, View.read_writes_rep_unit v _ inb' _ rfl]
  rfl

section
variable (c : Dev nD) (i : grid0.Coords) (arg3 : Memref sig .tc .vmem S1x256x1024 .f32) (harg3 : arg3.IsWhole) (arg4 : Memref sig .tc .vmem S1x1024x4256 .bf16) (harg4 : arg4.IsWhole) (arg5 : Memref sig .tc .vmem S1x4x2176 .f32) (harg5 : arg5.IsWhole) (arg6 : Memref sig .tc .vmem S1x1x2176 .f32) (harg6 : arg6.IsWhole) (arg7 : Memref sig .tc .vmem S1x1x32 .f32) (harg7 : arg7.IsWhole) (arg8 : Memref sig .tc .vmem S1x1x32 .f32) (harg8 : arg8.IsWhole) (arg9 : Memref sig .tc .vmem S1x1x2048 .f32) (harg9 : arg9.IsWhole) (arg10 : Memref sig .tc .vmem S1x1x2048 .f32) (harg10 : arg10.IsWhole) (arg11 : Memref sig .tc .vmem S1x2048x1024 .bf16) (harg11 : arg11.IsWhole) (arg12 : Memref sig .tc .vmem S1x1x1024 .f32) (harg12 : arg12.IsWhole) (arg13 : Memref sig .tc .vmem S32x2048 .bf16) (harg13 : arg13.IsWhole) (arg14 : Memref sig .tc .vmem S1x256x1024 .f32) (harg14 : arg14.IsWhole) (arg15 : Memref sig .tc .vmem S2048x1024 .f32) (harg15 : arg15.IsWhole) (arg16 : Memref sig .tc .vmem S64x2048 .f32) (harg16 : arg16.IsWhole) (arg17 : Memref sig .tc .vmem S8x2176 .f32) (harg17 : arg17.IsWhole) (arg18 : Memref sig .tc .vmem S256x2048 .f32) (harg18 : arg18.IsWhole)
  (x3 : Vec F S1x256x1024 .f32) (x4 : Vec F S1x1024x4256 .bf16) (x5 : Vec F S1x4x2176 .f32) (x6 : Vec F S1x1x2176 .f32) (x7 : Vec F S1x1x32 .f32) (x8 : Vec F S1x1x32 .f32) (x9 : Vec F S1x1x2048 .f32) (x10 : Vec F S1x1x2048 .f32) (x11 : Vec F S1x2048x1024 .bf16) (x12 : Vec F S1x1x1024 .f32) (x13 : Vec F S32x2048 .bf16) (x14 : Vec F S1x256x1024 .f32) (x15 : Vec F S2048x1024 .f32) (x16 : Vec F S64x2048 .f32) (x17 : Vec F S8x2176 .f32) (x18 : Vec F S256x2048 .f32)

set_option maxHeartbeats 4000000 in
/-- The body at a grid point: it leaves the inputs, and the outputs and scratches at the point's values. -/
theorem body_spec (E : Set ℕ) (K : PUnit → sProp 𝕄) :
    iprop((arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7) ∗ (arg8.view.loc (c : Thread nD τ) ↦[arg8.view.set]{fullShare} arg8.view.rep x8) ∗ (arg9.view.loc (c : Thread nD τ) ↦[arg9.view.set]{fullShare} arg9.view.rep x9) ∗ (arg10.view.loc (c : Thread nD τ) ↦[arg10.view.set]{fullShare} arg10.view.rep x10) ∗ (arg11.view.loc (c : Thread nD τ) ↦[arg11.view.set]{fullShare} arg11.view.rep x11) ∗ (arg12.view.loc (c : Thread nD τ) ↦[arg12.view.set]{fullShare} arg12.view.rep x12) ∗ (arg13.view.loc (c : Thread nD τ) ↦[arg13.view.set]{fullShare} arg13.view.rep x13) ∗ (arg14.view.loc (c : Thread nD τ) ↦[arg14.view.set]{fullShare} arg14.view.rep x14) ∗ (arg15.view.loc (c : Thread nD τ) ↦[arg15.view.set]{fullShare} arg15.view.rep x15) ∗ (arg16.view.loc (c : Thread nD τ) ↦[arg16.view.set]{fullShare} arg16.view.rep x16) ∗ (arg17.view.loc (c : Thread nD τ) ↦[arg17.view.set]{fullShare} arg17.view.rep x17) ∗ (arg18.view.loc (c : Thread nD τ) ↦[arg18.view.set]{fullShare} arg18.view.rep x18) ∗ (iprop((arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7) ∗ (arg8.view.loc (c : Thread nD τ) ↦[arg8.view.set]{fullShare} arg8.view.rep x8) ∗ (arg9.view.loc (c : Thread nD τ) ↦[arg9.view.set]{fullShare} arg9.view.rep x9) ∗ (arg10.view.loc (c : Thread nD τ) ↦[arg10.view.set]{fullShare} arg10.view.rep x10) ∗ (arg11.view.loc (c : Thread nD τ) ↦[arg11.view.set]{fullShare} arg11.view.rep x11) ∗ (arg12.view.loc (c : Thread nD τ) ↦[arg12.view.set]{fullShare} arg12.view.rep x12) ∗ (arg13.view.loc (c : Thread nD τ) ↦[arg13.view.set]{fullShare} arg13.view.rep x13) ∗ (arg14.view.loc (c : Thread nD τ) ↦[arg14.view.set]{fullShare} arg14.view.rep (srcOf i x3 x4 x5 x6 x7 x8 x9 x10 x11 x12 x13 x15 x16 x17).outb) ∗ (arg15.view.loc (c : Thread nD τ) ↦[arg15.view.set]{fullShare} arg15.view.rep (res1 i (srcOf i x3 x4 x5 x6 x7 x8 x9 x10 x11 x12 x13 x15 x16 x17) (res0 i x3 x15))) ∗ (arg16.view.loc (c : Thread nD τ) ↦[arg16.view.set]{fullShare} arg16.view.rep (srcOf i x3 x4 x5 x6 x7 x8 x9 x10 x11 x12 x13 x15 x16 x17).st2) ∗ (arg17.view.loc (c : Thread nD τ) ↦[arg17.view.set]{fullShare} arg17.view.rep (srcOf i x3 x4 x5 x6 x7 x8 x9 x10 x11 x12 x13 x15 x16 x17).tl') ∗ (∃ y, (arg18.view.loc (c : Thread nD τ) ↦[arg18.view.set]{fullShare} arg18.view.rep y))) -∗ K ⟨⟩))
      ⊢ wp frame (wpE (defs₀ (F := F)) Variants.none c none) E (cc0_mamba2_stack i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have h4 : ∀ inb, arg4.view.readAt (Elt F) (Rect.unit (s := S1x1024x4256) ![0, 0, 0] S1x1024x4256.size inb).toLoadRect (arg4.view.rep x4) = x4 :=
    fun inb => View.readAt_rep_full _ _ inb
  have h5 : ∀ inb, arg5.view.readAt (Elt F) (Rect.unit (s := S1x4x2176) ![0, 0, 0] S1x4x2176.size inb).toLoadRect (arg5.view.rep x5) = x5 :=
    fun inb => View.readAt_rep_full _ _ inb
  have h6 : ∀ inb, arg6.view.readAt (Elt F) (Rect.unit (s := S1x1x2176) ![0, 0, 0] S1x1x2176.size inb).toLoadRect (arg6.view.rep x6) = x6 :=
    fun inb => View.readAt_rep_full _ _ inb
  have h7 : ∀ inb, arg7.view.readAt (Elt F) (Rect.unit (s := S1x1x32) ![0, 0, 0] S1x1x32.size inb).toLoadRect (arg7.view.rep x7) = x7 :=
    fun inb => View.readAt_rep_full _ _ inb
  have h8 : ∀ inb, arg8.view.readAt (Elt F) (Rect.unit (s := S1x1x32) ![0, 0, 0] S1x1x32.size inb).toLoadRect (arg8.view.rep x8) = x8 :=
    fun inb => View.readAt_rep_full _ _ inb
  have h9 : ∀ inb, arg9.view.readAt (Elt F) (Rect.unit (s := S1x1x2048) ![0, 0, 0] S1x1x2048.size inb).toLoadRect (arg9.view.rep x9) = x9 :=
    fun inb => View.readAt_rep_full _ _ inb
  have h10 : ∀ inb, arg10.view.readAt (Elt F) (Rect.unit (s := S1x1x2048) ![0, 0, 0] S1x1x2048.size inb).toLoadRect (arg10.view.rep x10) = x10 :=
    fun inb => View.readAt_rep_full _ _ inb
  have h11 : ∀ inb, arg11.view.readAt (Elt F) (Rect.unit (s := S1x2048x1024) ![0, 0, 0] S1x2048x1024.size inb).toLoadRect (arg11.view.rep x11) = x11 :=
    fun inb => View.readAt_rep_full _ _ inb
  have h12 : ∀ inb, arg12.view.readAt (Elt F) (Rect.unit (s := S1x1x1024) ![0, 0, 0] S1x1x1024.size inb).toLoadRect (arg12.view.rep x12) = x12 :=
    fun inb => View.readAt_rep_full _ _ inb
  have h13 : ∀ inb, arg13.view.readAt (Elt F) (Rect.unit (s := S32x2048) ![0, 0] S32x2048.size inb).toLoadRect (arg13.view.rep x13) = x13 :=
    fun inb => View.readAt_rep_full _ _ inb
  have hst : ∀ inb, arg16.view.readAt (Elt F) (Rect.unit (s := S64x2048) ![0, 0] S64x2048.size inb).toLoadRect (arg16.view.rep (srcOf i x3 x4 x5 x6 x7 x8 x9 x10 x11 x12 x13 x15 x16 x17).st) = (srcOf i x3 x4 x5 x6 x7 x8 x9 x10 x11 x12 x13 x15 x16 x17).st :=
    fun inb => View.readAt_rep_full _ _ inb
  have hcut := part1_spec (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (x3 := x3) (x4 := x4) (x5 := x5) (x6 := x6) (x7 := x7) (x8 := x8) (x9 := x9) (x10 := x10) (x11 := x11) (x12 := x12) (x13 := x13) (x15 := x15) (x16 := x16) (x17 := x17) E
  simp only [cc0_mamba2_stack_eq_skeleton]; unfold cc0_mamba2_stack_skel
  iintro ⟨H3, H4, H5, H6, H7, H8, H9, H10, H11, H12, H13, H14, H15, H16, H17, H18, HK⟩
  sl_exec
  sl_step
  obtain rfl : v8 = (srcOf i x3 x4 x5 x6 x7 x8 x9 x10 x11 x12 x13 x15 x16 x17).r := hk0_part1_8
  obtain rfl : v27 = (srcOf i x3 x4 x5 x6 x7 x8 x9 x10 x11 x12 x13 x15 x16 x17).z := hk0_part1_9
  obtain rfl : v28 = (srcOf i x3 x4 x5 x6 x7 x8 x9 x10 x11 x12 x13 x15 x16 x17).xbc := hk0_part1_10
  obtain rfl : v29 = (srcOf i x3 x4 x5 x6 x7 x8 x9 x10 x11 x12 x13 x15 x16 x17).dtr := hk0_part1_11
  obtain rfl : v31 = (srcOf i x3 x4 x5 x6 x7 x8 x9 x10 x11 x12 x13 x15 x16 x17).taps := hk0_part1_12
  obtain rfl : v32 = (srcOf i x3 x4 x5 x6 x7 x8 x9 x10 x11 x12 x13 x15 x16 x17).tl := hk0_part1_13
  obtain rfl : v33 = Src.row8 := hk0_part1_14
  iapply HK
  isplitl [Hk0_part1_0]; · iexact Hk0_part1_0
  isplitl [Hk0_part1_1]; · iexact Hk0_part1_1
  isplitl [Hk0_part1_2]; · iexact Hk0_part1_2
  isplitl [H6]; · iexact H6
  isplitl [H7]; · iexact H7
  isplitl [H8]; · iexact H8
  isplitl [H9]; · iexact H9
  isplitl [H10]; · iexact H10
  isplitl [H11]; · iexact H11
  isplitl [Hk0_part1_3]; · iexact Hk0_part1_3
  isplitl [H13]; · iexact H13
  isplitl [H14]
  · iapply (pointsTo_rep_of_read (c : Thread nD τ) arg14 _ fullShare _ (read_out (srcOf i x3 x4 x5 x6 x7 x8 x9 x10 x11 x12 x13 x15 x16 x17) arg14.view _ _ _ _
      (readCov_heads arg18.view 0 (by decide) (srcOf i x3 x4 x5 x6 x7 x8 x9 x10 x11 x12 x13 x15 x16 x17).hd0 [] _)
      (readCov_heads arg18.view 128 (by decide) (srcOf i x3 x4 x5 x6 x7 x8 x9 x10 x11 x12 x13 x15 x16 x17).hd1 (headPieces 0 (by decide) (srcOf i x3 x4 x5 x6 x7 x8 x9 x10 x11 x12 x13 x15 x16 x17).hd0 [] 32 le_rfl) _)
      (st1_read (srcOf i x3 x4 x5 x6 x7 x8 x9 x10 x11 x12 x13 x15 x16 x17) arg16.view _ _) _ _))
    iexact H14
  isplitl [Hk0_part1_4]
  · iapply (pointsTo_rep_of_read (c : Thread nD τ) arg15 _ fullShare _ (read_res i (srcOf i x3 x4 x5 x6 x7 x8 x9 x10 x11 x12 x13 x15 x16 x17) arg15.view _ _ _ _
      (readCov_heads arg18.view 0 (by decide) (srcOf i x3 x4 x5 x6 x7 x8 x9 x10 x11 x12 x13 x15 x16 x17).hd0 [] _)
      (readCov_heads arg18.view 128 (by decide) (srcOf i x3 x4 x5 x6 x7 x8 x9 x10 x11 x12 x13 x15 x16 x17).hd1 (headPieces 0 (by decide) (srcOf i x3 x4 x5 x6 x7 x8 x9 x10 x11 x12 x13 x15 x16 x17).hd0 [] 32 le_rfl) _)
      (st1_read (srcOf i x3 x4 x5 x6 x7 x8 x9 x10 x11 x12 x13 x15 x16 x17) arg16.view _ _) _ _))
    iexact Hk0_part1_4
  isplitl [Hk0_part1_5]
  · iapply (pointsTo_rep_of_read (c : Thread nD τ) arg16 _ fullShare _ ((View.read_writes_full _ _ _ _ _).trans
      (congrArg (k0_pay159 (srcOf i x3 x4 x5 x6 x7 x8 x9 x10 x11 x12 x13 x15 x16 x17).tot1 (srcOf i x3 x4 x5 x6 x7 x8 x9 x10 x11 x12 x13 x15 x16 x17).b1 · (srcOf i x3 x4 x5 x6 x7 x8 x9 x10 x11 x12 x13 x15 x16 x17).xw1) (st1_read (srcOf i x3 x4 x5 x6 x7 x8 x9 x10 x11 x12 x13 x15 x16 x17) arg16.view _ _))))
    iexact Hk0_part1_5
  isplitl [Hk0_part1_6]
  · iapply (pointsTo_rep_of_read (c : Thread nD τ) arg17 _ fullShare _ (View.read_writes_full _ _ _ _ _))
    iexact Hk0_part1_6
  iexists _
  iapply (pointsTo_rep_of_read (c : Thread nD τ) arg18 _ fullShare _ rfl)
  iexact H18
end

end Cert.KernelIdeal
-- ==== Proof.KernelIdeal.Grid.lean ====
module

public import proofs.«01_k».proof.Proof.Gen.KernelIdeal.Frame
public import proofs.«01_k».proof.Proof.Gen.KernelIdeal.Skeleton
public import proofs.«01_k».proof.Proof.KernelIdeal.Step
public import proofs.«01_k».proof.Proof.KernelIdeal.Body
public import Idealize.ShloMosaic.Lib.VecWindow
public import Idealize.ShloMosaic.Lib.Pipeline.TableIdle
public import Idealize.ShloMosaic.Lib.ValueIdx
public import Idealize.ShloMosaic.Lib.Pointwise
public import Idealize.ShloMosaic.Lib.Tactic
public import Idealize.ShloMosaic.Lib.WordCmp
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The grid run

What the buffers hold between the grid points, and the run of the whole grid: the scratch contents are named by a
recursion over the points, and the rows of the residual buffer not yet written in the first sweep are left open. -/

/-- Word arithmetic of a chunk's first row. -/
theorem word_row : ∀ n : Fin 8, (BitVec.ofNat 32 n.val * 256#32).toNat = 256 * n.val := by decide
/-- Word arithmetic of the first row of a chunk's second half. -/
theorem word_row_half : ∀ n : Fin 8, (BitVec.ofNat 32 n.val * 256#32 + 128#32).toNat = 256 * n.val + 128 := by decide

theorem off1_eq (i : grid0.Coords) : k0_off1 i = ![256 * (i 2).val, 0] :=
  congrArg (fun n => ![n, 0]) (word_row (i 2))
theorem off2_eq (i : grid0.Coords) : k0_off2 i = ![256 * (i 2).val, 0] :=
  congrArg (fun n => ![n, 0]) (word_row (i 2))
theorem off3_eq0 (i : grid0.Coords) : k0_off3 i 0#32 = ![256 * (i 2).val, 0] :=
  congrArg (fun n => ![n, 0]) ((congrArg BitVec.toNat (BitVec.add_zero _)).trans (word_row (i 2)))
theorem off3_eq1 (i : grid0.Coords) : k0_off3 i 128#32 = ![256 * (i 2).val + 128, 0] :=
  congrArg (fun n => ![n, 0]) (word_row_half (i 2))

/-- The chunk of a grid point. -/
theorem coord2 (t : Fin cfg0.N) : (grid0.coords t 2).val = t.val % 8 := by
  have h := Pipeline.Grid.coords_val (G := grid0) t 2 (S := 1) (B := 8) (by decide) rfl
  rw [Nat.div_one] at h; exact h
/-- The layer of a grid point. -/
theorem coord1 (t : Fin cfg0.N) : (grid0.coords t 1).val = t.val / 8 % 4 :=
  Pipeline.Grid.coords_val (G := grid0) t 1 (S := 8) (B := 4) (by decide) rfl
/-- The batch of a grid point. -/
theorem coord0 (t : Fin cfg0.N) : (grid0.coords t 0).val = t.val / 32 % 2 :=
  Pipeline.Grid.coords_val (G := grid0) t 0 (S := 32) (B := 2) (by decide) rfl

/-- The one-bit test of a small number against zero. -/
theorem word_zero : ∀ n : Fin 8, (Scalar.cmpi .ne (Scalar.extui (Scalar.cmpi .eq (BitVec.ofNat 32 n.val) 0#32) : BitVec 32) 0#32) = 1#1 ↔ n.val = 0 := by
  decide

/-- A point starts a sequence exactly when its chunk is the first. -/
theorem first_iff (i : grid0.Coords) : first i ↔ (i 2).val = 0 := word_zero (i 2)
/-- A point loads the input exactly when its layer is the first. -/
theorem cond2_iff (i : grid0.Coords) : k0_cond2 i = 1#1 ↔ (i 1).val = 0 :=
  word_zero ⟨(i 1).val, lt_trans (show (i 1).val < 4 from (i 1).isLt) (by decide)⟩

/-! ## One point's effect on the residual buffer, row by row -/

/-- An index lies in a band of whole rows exactly when its row does. -/
theorem rows_mem {M W : ℕ} {o w : ℕ} (y : (⟨2, ![M, W]⟩ : Shape).Idx) :
    (∀ d : Fin 2, ![o, 0] d ≤ (y d).val ∧ (y d).val < ![o, 0] d + ![w, W] d) ↔ o ≤ (y 0).val ∧ (y 0).val < o + w := by
  refine ⟨fun h => h 0, fun h d => ?_⟩
  have h1 : (y 1).val < W := (y 1).isLt
  fin_cases d
  · exact h
  · exact ⟨Nat.zero_le _, by show (y 1).val < 0 + W; omega⟩

/-- A band of whole rows, put into an array: inside the band. -/
theorem put_rows_in {α : Type} {M W : ℕ} (R : (⟨2, ![M, W]⟩ : Shape).Idx → α) (o w : ℕ) (u : (⟨2, ![w, W]⟩ : Shape).Idx → α)
    (y : (⟨2, ![M, W]⟩ : Shape).Idx) (p : Fin w) (hp : (y 0).val = o + p.val) :
    VecWindow.put (s := ⟨2, ![M, W]⟩) R ![o, 0] ![w, W] u y = u (ValueIdx.ix2 p (y 1)) := by
  refine (dif_pos (rows_mem y |>.mpr ⟨by omega, by have := p.isLt; omega⟩)).trans (congrArg u (funext fun d => ?_))
  fin_cases d
  · exact Fin.ext (by show (y 0).val - o = p.val; omega)
  · exact Fin.ext (Nat.sub_zero _)

/-- A band of whole rows, put into an array: outside the band. -/
theorem put_rows_out {α : Type} {M W : ℕ} (R : (⟨2, ![M, W]⟩ : Shape).Idx → α) (o w : ℕ) (u : (⟨2, ![w, W]⟩ : Shape).Idx → α)
    (y : (⟨2, ![M, W]⟩ : Shape).Idx) (hp : (y 0).val < o ∨ o + w ≤ (y 0).val) :
    VecWindow.put (s := ⟨2, ![M, W]⟩) R ![o, 0] ![w, W] u y = R y :=
  dif_neg fun h => by have := rows_mem y |>.mp h; omega

/-- The first half of a point's block. -/
theorem blk_lo (a : Src F) (p : Fin 128) (q : Fin 1024) :
    a.blk (ValueIdx.ix2 (⟨p.val, by omega⟩ : Fin 256) q) = a.lo (ValueIdx.ix2 p q) := by
  unfold Src.blk
  refine (put_rows_out (M := 256) (W := 1024) _ 128 128 _ _ (.inl ?_)).trans (put_rows_in (M := 256) (W := 1024) _ 0 128 _ _ p ?_)
  · exact p.isLt
  · exact (Nat.zero_add _).symm

/-- The second half of a point's block. -/
theorem blk_hi (a : Src F) (p : Fin 128) (q : Fin 1024) :
    a.blk (ValueIdx.ix2 (⟨128 + p.val, by omega⟩ : Fin 256) q) = a.hi (ValueIdx.ix2 p q) := by
  unfold Src.blk
  exact put_rows_in (M := 256) (W := 1024) _ 128 128 _ _ p rfl

/-- After a point, the rows of its chunk hold its block. -/
theorem res1_in (i : grid0.Coords) (a : Src F) (R : Vec F S2048x1024 .f32) (y : S2048x1024.Idx) (p : Fin 256)
    (hp : (y 0).val = 256 * (i 2).val + p.val) : res1 i a R y = a.blk (ValueIdx.ix2 p (y 1)) := by
  unfold res1
  rw [off3_eq0, off3_eq1]
  by_cases h : p.val < 128
  · refine (put_rows_out (M := 2048) (W := 1024) _ _ 128 _ y (.inl (by omega))).trans ?_
    exact (put_rows_in (M := 2048) (W := 1024) _ _ 128 _ y ⟨p.val, h⟩ hp).trans (blk_lo a ⟨p.val, h⟩ (y 1)).symm
  · refine (put_rows_in (M := 2048) (W := 1024) _ _ 128 _ y ⟨p.val - 128, by omega⟩ (by show _ = _ + (p.val - 128); omega)).trans
      ((blk_hi a ⟨p.val - 128, by omega⟩ (y 1)).symm.trans ?_)
    exact congrArg (fun r : Fin 256 => a.blk (ValueIdx.ix2 r (y 1))) (Fin.ext (by show 128 + (p.val - 128) = p.val; omega))

/-- After a point, the other rows are as they were. -/
theorem res1_out (i : grid0.Coords) (a : Src F) (x : Vec F S1x256x1024 .f32) (R : Vec F S2048x1024 .f32) (y : S2048x1024.Idx)
    (hp : (y 0).val < 256 * (i 2).val ∨ 256 * (i 2).val + 256 ≤ (y 0).val) : res1 i a (res0 i x R) y = R y := by
  unfold res1
  rw [off3_eq0, off3_eq1]
  refine (put_rows_out (M := 2048) (W := 1024) _ _ 128 _ y (by omega)).trans
    ((put_rows_out (M := 2048) (W := 1024) _ _ 128 _ y (by omega)).trans ?_)
  unfold res0
  split
  · rw [off1_eq]; exact put_rows_out (M := 2048) (W := 1024) _ _ 256 _ y (by omega)
  · rfl

/-! ## The scratches, point by point -/

/-- The contents of the scratches carried from point to point: the residual stream, the state, the last rows. -/
structure Scr (F : FTy → Type) where
  r : Vec F S2048x1024 .f32
  s : Vec F S64x2048 .f32
  p : Vec F S8x2176 .f32

variable (m : (ℓ : Loc nD τ sig) → Buf (Elt F) ℓ) (ρ : Dev nD → PrngReg)

/-- What point `t` reads, with scratch contents `k`. -/
def srcAt (c : Dev nD) (t : Fin cfg0.N) (k : Scr F) : Src F :=
  srcOf (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) k.r k.s k.p

/-- The scratches after point `t`. -/
def stepScr (c : Dev nD) (t : Fin cfg0.N) (k : Scr F) : Scr F where
  r := res1 (grid0.coords t) (srcAt m c t k) (res0 (grid0.coords t) (iblk m c 0 t) k.r)
  s := (srcAt m c t k).st2
  p := (srcAt m c t k).tl'

/-- The scratches before point `n`, from zeros. -/
def scr (c : Dev nD) : ℕ → Scr F
  | 0 => ⟨constant S2048x1024 .f32 0x00000000#32, k0_pay4, k0_pay5⟩
  | n + 1 => if h : n < cfg0.N then stepScr m c ⟨n, h⟩ (scr c n) else scr c n

theorem scr_succ (c : Dev nD) (t : Fin cfg0.N) : scr m c (t.val + 1) = stepScr m c t (scr m c t.val) :=
  dif_pos t.isLt

/-- What point `t` reads in the run. -/
def src (c : Dev nD) (t : Fin cfg0.N) : Src F := srcAt m c t (scr m c t.val)

/-- Contents the scratches may have before point `n`: those named, but the rows not yet written in the first sweep, and
    the state and last rows before a new sequence, are open. -/
structure Agree (c : Dev nD) (n : ℕ) (k : Scr F) : Prop where
  s : n % 8 ≠ 0 → k.s = (scr m c n).s
  p : n % 8 ≠ 0 → k.p = (scr m c n).p
  r : ∀ y : S2048x1024.Idx, (y 0).val < 256 * n → k.r y = (scr m c n).r y

/-- What a point reads depends on the scratches through three of its parts only. -/
theorem srcAt_ext (c : Dev nD) (t : Fin cfg0.N) (k k' : Scr F) (hr : (srcAt m c t k).r = (srcAt m c t k').r)
    (hs : (srcAt m c t k).st = (srcAt m c t k').st) (hp : (srcAt m c t k).tl = (srcAt m c t k').tl) : srcAt m c t k = srcAt m c t k' := by
  unfold srcAt srcOf at *
  dsimp only at hr hs hp
  rw [hr, hs, hp]

/-- A point reads the same of all contents allowed. -/
theorem srcAt_agree (c : Dev nD) (t : Fin cfg0.N) (k : Scr F) (h : Agree m c t.val k) : srcAt m c t k = src m c t := by
  have hs : (srcAt m c t k).st = (src m c t).st := by
    show (if first _ then k0_pay4 else k.s) = (if first _ then k0_pay4 else (scr m c t.val).s)
    by_cases hf : first (grid0.coords t)
    · rw [if_pos hf, if_pos hf]
    · rw [if_neg hf, if_neg hf, h.s (fun h0 => hf ((first_iff _).mpr ((coord2 t).trans h0)))]
  have hp : (srcAt m c t k).tl = (src m c t).tl := by
    show (if first _ then k0_pay5 else k.p) = (if first _ then k0_pay5 else (scr m c t.val).p)
    by_cases hf : first (grid0.coords t)
    · rw [if_pos hf, if_pos hf]
    · rw [if_neg hf, if_neg hf, h.p (fun h0 => hf ((first_iff _).mpr ((coord2 t).trans h0)))]
  have hr : (srcAt m c t k).r = (src m c t).r := by
    show VecWindow.window (res0 _ _ k.r) _ _ _ = VecWindow.window (res0 _ _ (scr m c t.val).r) _ _ _
    unfold res0
    by_cases hc : k0_cond2 (grid0.coords t) = 1#1
    · rw [if_pos hc, if_pos hc]
      exact (VecWindow.window_put_same (s := S2048x1024) k.r (k0_off2 _) S256x1024.size (k0_off2_inb _) _).trans
        (VecWindow.window_put_same (s := S2048x1024) _ (k0_off2 _) S256x1024.size (k0_off2_inb _) _).symm
    · rw [if_neg hc, if_neg hc]
      have h1 : ¬ t.val / 8 % 4 = 0 := fun h0 => hc ((cond2_iff _).mpr ((coord1 t).trans h0))
      rw [funext fun y => h.r y (by have : (y 0).val < 2048 := (y 0).isLt; omega)]
  exact srcAt_ext m c t k _ hr hs hp

/-- What a point leaves is allowed before the next. -/
theorem agree_step (c : Dev nD) (t : Fin cfg0.N) (k : Scr F) (h : Agree m c t.val k) : Agree m c (t.val + 1) (stepScr m c t k) := by
  have e : srcAt m c t k = srcAt m c t (scr m c t.val) := srcAt_agree m c t k h
  constructor
  · intro _; rw [scr_succ]; exact congrArg Src.st2 e
  · intro _; rw [scr_succ]; exact congrArg Src.tl' e
  · intro y hy
    rw [scr_succ]
    show res1 _ (srcAt m c t k) _ y = res1 _ (srcAt m c t (scr m c t.val)) _ y
    rw [e]
    have hc := coord2 t
    have hy0 : (y 0).val < 2048 := (y 0).isLt
    by_cases hin : 256 * (t.val % 8) ≤ (y 0).val ∧ (y 0).val < 256 * (t.val % 8) + 256
    · exact (res1_in _ _ _ y ⟨(y 0).val - 256 * (t.val % 8), by omega⟩ (by rw [hc]; show _ = _ + (_ - _); omega)).trans
        (res1_in _ _ _ y ⟨(y 0).val - 256 * (t.val % 8), by omega⟩ (by rw [hc]; show _ = _ + (_ - _); omega)).symm
    · rw [res1_out _ _ _ _ y (by rw [hc]; omega), res1_out _ _ _ _ y (by rw [hc]; omega)]
      exact h.r y (by omega)

/-! ## The pipeline's proof data -/

/-- The scratch buffers, each whole. -/
abbrev scM0 : Memref sig .tc .vmem S2048x1024 .f32 := Memref.whole cc0_scratch0
abbrev scM1 : Memref sig .tc .vmem S64x2048 .f32 := Memref.whole cc0_scratch1
abbrev scM2 : Memref sig .tc .vmem S8x2176 .f32 := Memref.whole cc0_scratch2
abbrev scM3 : Memref sig .tc .vmem S256x2048 .f32 := Memref.whole cc0_scratch3

/-- Before the first point every scratch holds something. -/
theorem PhiA_eq (c : Dev nD) :
    (Pipeline.ΦA spec0 c : sProp 𝕄) = iprop(iprop((∃ d, owns (c : Thread nD τ) scM0 fullShare d) ∗ (∃ d, owns (c : Thread nD τ) scM1 fullShare d)
      ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- Between the points: scratch contents that are allowed. -/
def PhiS (c : Dev nD) (n : ℕ) : sProp 𝕄 :=
  iprop(∃ k : Scr F, ∃ y, ⌜Agree m c n k⌝ ∗ owns (c : Thread nD τ) scM0 fullShare k.r ∗ owns (c : Thread nD τ) scM1 fullShare k.s
    ∗ owns (c : Thread nD τ) scM2 fullShare k.p ∗ owns (c : Thread nD τ) scM3 fullShare y ∗ (∃ r, prngReg c r))

/-- The proof data: inputs stay at their blocks, the output buffer holds the point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (src m c t).outb
  Φ t := PhiS m c t.val
  q _ := fullShare
  owed _ := 0

/-- The proof data's arrays are those the launch hands over. -/
theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = (src m c t).outb := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-! ## The body at a point -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  simp only [before_0, before_1, before_2, before_3, before_4, before_5, before_6, before_7, before_8, before_9, before_10, after_0, after_1, after_2, after_3, after_4, after_5, after_6, after_7, after_8, after_9, after_10, after_11]
  unfold PhiS
  simp only [owns_eq_rep]
  iintro ⟨⟨%k, %y, %hk, HR, HS, HP, HY, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have e := srcAt_agree m c t k hk
  have e2 := agree_step m c t k hk
  iapply (body_spec (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) scM0 (Memref.isWhole_whole _) scM1 (Memref.isWhole_whole _) scM2 (Memref.isWhole_whole _) scM3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) _ k.r k.s k.p y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HR]; · iexact HR
  isplitl [HS]; · iexact HS
  isplitl [HP]; · iexact HP
  isplitl [HY]; · iexact HY
  iintro ⟨H0, H1, H2, H3, H4, H5, H6, H7, H8, H9, H10, H11, HR, HS, HP, ⟨%y', HY⟩⟩
  isplitl [HR HS HP HY Hg]
  · iexists (stepScr m c t k)
    iexists y'
    isplitr
    · ipureintro; exact e2
    isplitl [HR]; · iexact HR
    isplitl [HS]; · iexact HS
    isplitl [HP]; · iexact HP
    isplitl [HY]; · iexact HY
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  rw [← e]
  iexact H11

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact sound_body m c t

/-- What the launch hands the region is allowed before the first point. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%r, HR⟩, ⟨%s, HS⟩, ⟨%p, HP⟩, ⟨%y, HY⟩⟩, Hg⟩
  iexists (⟨r, s, p⟩ : Scr F)
  iexists y
  isplitr
  · ipureintro
    exact ⟨fun h => absurd rfl h, fun h => absurd rfl h, fun y h => absurd h (by omega)⟩
  isplitl [HR]; · iexact HR
  isplitl [HS]; · iexact HS
  isplitl [HP]; · iexact HP
  isplitl [HY]; · iexact HY
  iexact Hg

/-- After the last point the scratches hold something. -/
theorem hout (c : Dev nD) : (dats m 0 c).Φ (Fin.last cfg0.N) ⊢ Pipeline.ΦA spec0 c := by
  rw [show (dats m 0 c).Φ (Fin.last cfg0.N) = PhiS m c cfg0.N from rfl, PhiA_eq]
  unfold PhiS
  iintro ⟨%k, %y, %hk, HR, HS, HP, HY, Hg⟩
  isplitl [HR HS HP HY]
  · isplitl [HR]; · iexists _; iexact HR
    isplitl [HS]; · iexists _; iexact HS
    isplitl [HP]; · iexists _; iexact HP
    iexists _; iexact HY
  iexact Hg

/-! ## The run -/

set_option backward.isDefEq.respectTransparency.types false in
/-- The whole launch: it ends, every array as the proof data says, every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch ends with the arguments unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal
-- ==== Proof.Spec.lean ====
module

public import Idealize.ShloMosaic.Lib.Pointwise
public import Idealize.ShloMosaic.Lib.Tactic

@[expose] public section

noncomputable section

/-! # The layer, as functions of positions and channels

Nothing here names either program: a sequence is a function of the position, a weight a function of its channels, and
each value of the layer is written as in the definition of the model. -/

namespace Cert.Spec

open Idealize.ShloMosaic
open scoped BigOperators

/-- The weights of one layer. -/
structure Wt where
  /-- Input projection. -/
  iw : Fin 4256 → Fin 1024 → EReal
  /-- Convolution taps. -/
  cw : Fin 2176 → Fin 4 → EReal
  /-- Convolution bias. -/
  cb : Fin 2176 → EReal
  /-- Step-size bias. -/
  dtb : Fin 32 → EReal
  /-- Decay parameter. -/
  al : Fin 32 → EReal
  /-- Skip weight. -/
  dd : Fin 32 → EReal
  /-- Gate norm weight. -/
  gn : Fin 2048 → EReal
  /-- Output projection. -/
  ow : Fin 1024 → Fin 2048 → EReal
  /-- Input norm weight. -/
  rw : Fin 1024 → EReal

/-- The stabiliser of both norms. -/
def eps : EReal := Ideal.ofBits .f32 0x3727C5AC#32

/-- A row over its root mean square (`d` is the row's length), times the weights. -/
def norm {n : ℕ} (v : Fin n → EReal) (d : EReal) (w : Fin n → EReal) (k : Fin n) : EReal :=
  v k * Ideal.rsqrt (Ideal.div (∑ j, v j * v j) d + eps) * w k

/-- `v` times its sigmoid. -/
def act (v : EReal) : EReal := v * Ideal.logistic v

/-- `log (1 + exp v)`, the way that does not overflow. -/
def sp (v : EReal) : EReal := max v 0 + Ideal.log1p (Ideal.exp (-(max v (-v))))

/-- The head that a channel belongs to. -/
def hd (e : Fin 2048) : Fin 32 := ⟨e.val / 64, by have := e.isLt; omega⟩

variable (w : Wt) (x : ℕ → Fin 1024 → EReal)

/-- The projection of the normalised position. -/
def zx (t : ℕ) (e : Fin 4256) : EReal :=
  ∑ k, norm (x t) (Ideal.ofBits .f32 0x44800000#32) w.rw k * w.iw e k

/-- The gate channels of the projection. -/
def zg (t : ℕ) (e : Fin 2048) : EReal := zx w x t ⟨e.val, by omega⟩

/-- The channels that the convolution takes. -/
def raw (t : ℕ) (j : Fin 2176) : EReal := zx w x t ⟨2048 + j.val, by omega⟩

/-- The step-size channels. -/
def dtr (t : ℕ) (h : Fin 32) : EReal := zx w x t ⟨4224 + h.val, by omega⟩

/-- The convolution's input shifted by `3 - k` positions, zero before the start. -/
def sh (k t : ℕ) (j : Fin 2176) : EReal := if 3 ≤ t + k then raw w x (t + k - 3) j else 0

/-- The causal convolution. -/
def conv (t : ℕ) (j : Fin 2176) : EReal :=
  w.cb j + sh w x 0 t j * w.cw j 0 + sh w x 1 t j * w.cw j 1 + sh w x 2 t j * w.cw j 2 + sh w x 3 t j * w.cw j 3

/-- The convolved and activated channels. -/
def xbc (t : ℕ) (j : Fin 2176) : EReal := act (conv w x t j)

/-- The scan's input. -/
def xs (t : ℕ) (e : Fin 2048) : EReal := xbc w x t ⟨e.val, by omega⟩

/-- The scan's input matrix. -/
def bm (t : ℕ) (n : Fin 64) : EReal := xbc w x t ⟨2048 + n.val, by omega⟩

/-- The scan's output matrix. -/
def cm (t : ℕ) (n : Fin 64) : EReal := xbc w x t ⟨2112 + n.val, by omega⟩

/-- The step size. -/
def dt (t : ℕ) (h : Fin 32) : EReal := sp (dtr w x t h + w.dtb h)

/-- The log decay of one position. -/
def dA (t : ℕ) (h : Fin 32) : EReal := dt w x t h * -(Ideal.exp (w.al h))

/-- The running log decay. -/
def cs (t : ℕ) (h : Fin 32) : EReal := ∑ s ∈ Finset.range (t + 1), dA w x s h

/-- The scan's input times the step size. -/
def xd (t : ℕ) (e : Fin 2048) : EReal := xs w x t e * dt w x t (hd e)

/-- The decay from position `s` to position `t`, zero when `s` comes after `t`. -/
def dec (t s : ℕ) (h : Fin 32) : EReal := if s ≤ t then Ideal.exp (cs w x t h - cs w x s h) else 0

/-- The scan: position `t` reads every position up to itself. -/
def y (t : ℕ) (e : Fin 2048) : EReal :=
  ∑ s : Fin 2048, xd w x s.val e * ((∑ n, cm w x t n * bm w x s.val n) * dec w x t s.val (hd e))

/-- The scan with the skip, gated. -/
def u (t : ℕ) (e : Fin 2048) : EReal := (y w x t e + w.dd (hd e) * xs w x t e) * act (zg w x t e)

/-- The layer with the residual. -/
def layer (t : ℕ) (d : Fin 1024) : EReal :=
  x t d + ∑ e, norm (u w x t) (Ideal.ofBits .f32 0x45000000#32) w.gn e * w.ow d e

/-- The running log decay from position `T`. -/
def lc (T p : ℕ) (h : Fin 32) : EReal := ∑ s ∈ Finset.range (p + 1), dA w x (T + s) h

/-- The state after the 128 positions from `T`, from the state `st` before. -/
def tileSt (T : ℕ) (st : Fin 64 → Fin 2048 → EReal) (n : Fin 64) (e : Fin 2048) : EReal :=
  Ideal.exp (lc w x T 127 (hd e)) * st n e
    + ∑ q : Fin 128, bm w x (T + q.val) n * (xd w x (T + q.val) e * Ideal.exp (lc w x T 127 (hd e) - lc w x T q.val (hd e)))

/-- The scan at the position `p` places after `T`: what the 128 positions from `T` give, and what the state `st`
    before gives. -/
def tileY (T : ℕ) (st : Fin 64 → Fin 2048 → EReal) (p : ℕ) (e : Fin 2048) : EReal :=
  (∑ q : Fin 128, (if q.val ≤ p then ∑ n, cm w x (T + p) n * bm w x (T + q.val) n else 0)
      * Ideal.exp (min (lc w x T p (hd e) - lc w x T q.val (hd e)) 0) * xd w x (T + q.val) e)
    + Ideal.exp (lc w x T p (hd e)) * ∑ n, cm w x (T + p) n * st n e

/-- The weights of layer `i`, out of the arrays that hold all four layers. -/
def wtOf (a1 : (⟨3, ![4, 4256, 1024]⟩ : Shape).Idx → EReal) (a2 : (⟨3, ![4, 2176, 4]⟩ : Shape).Idx → EReal)
    (a3 : (⟨2, ![4, 2176]⟩ : Shape).Idx → EReal) (a4 a5 a6 : (⟨2, ![4, 32]⟩ : Shape).Idx → EReal)
    (a7 : (⟨2, ![4, 2048]⟩ : Shape).Idx → EReal) (a8 : (⟨3, ![4, 1024, 2048]⟩ : Shape).Idx → EReal)
    (a9 : (⟨2, ![4, 1024]⟩ : Shape).Idx → EReal) (i : Fin 4) : Wt where
  iw e k := a1 (ix3 i e k)
  cw j k := a2 (ix3 i j k)
  cb j := a3 (ix2 i j)
  dtb h := a4 (ix2 i h)
  al h := a5 (ix2 i h)
  dd h := a6 (ix2 i h)
  gn e := a7 (ix2 i e)
  ow d e := a8 (ix3 i d e)
  rw k := a9 (ix2 i k)

/-- The sequence of batch `b`. -/
def seq (a0 : (⟨3, ![2, 2048, 1024]⟩ : Shape).Idx → EReal) (b : Fin 2) (t : ℕ) (d : Fin 1024) : EReal :=
  if h : t < 2048 then a0 (ix3 b ⟨t, h⟩ d) else 0

/-- The sequence after the first `n` layers, zero past the end. -/
def stack (W : Fin 4 → Wt) (x : ℕ → Fin 1024 → EReal) : ℕ → ℕ → Fin 1024 → EReal
  | 0 => x
  | n + 1 => fun t d => if t < 2048 then layer (W ⟨n % 4, Nat.mod_lt _ (by decide)⟩) (stack W x n) t d else 0

end Cert.Spec
-- ==== Proof.KernelIdeal.Vals.lean ====
module

public import proofs.«01_k».proof.Proof.KernelIdeal.Step
public import proofs.«01_k».proof.Proof.Spec

@[expose] public section

set_option maxRecDepth 16384

noncomputable section

/-! # The values of one grid point

A grid point of layer weights `w` whose block starts at position `T` of the sequence `x`: each value of the point is
the layer's value at the block's positions. -/

namespace Cert.KernelIdeal

open Idealize.ShloMosaic Cert.Spec Cert.KernelIdeal.Gen
open scoped BigOperators

/-- What the point has read of the weights and of the block. -/
structure Reads (a : Src Ideal) (w : Wt) (x : ℕ → Fin 1024 → EReal) (T : ℕ) : Prop where
  inw : ∀ k e, a.inw (ix3 0 k e) = w.iw e k
  cw : ∀ k j, a.cw (ix3 0 k j) = w.cw j k
  cb : ∀ j, a.cb (ix3 0 0 j) = w.cb j
  dtb : ∀ h, a.dtb (ix3 0 0 h) = w.dtb h
  alog : ∀ h, a.alog (ix3 0 0 h) = w.al h
  dd : ∀ e, a.dd (ix3 0 0 e) = w.dd (hd e)
  gn : ∀ e, a.gn (ix3 0 0 e) = w.gn e
  outw : ∀ e d, a.outw (ix3 0 e d) = w.ow d e
  rmsw : ∀ d, a.rmsw (ix3 0 0 d) = w.rw d
  ee : ∀ h e, a.ee (ix2 h e) = if hd e = h then 1 else 0
  r : ∀ p d, a.r (ix2 p d) = x (T + p.val) d
  tl : ∀ (k : Fin 8) j, a.tl (ix2 k j) = if 8 ≤ T + k.val then raw w x (T + k.val - 8) j else 0

variable {a : Src Ideal} {w : Wt} {x : ℕ → Fin 1024 → EReal} {T : ℕ}

/-- The projection of the block. -/
theorem pay7_val (hR : Reads a w x T) (p : Fin 256) (e : Fin 4256) :
    k0_pay7 a.r a.rmsw a.inw (ix2 p e) = zx w x (T + p.val) e := by
  pointwise [k0_pay7]
  simp only [hR.r, hR.rmsw, hR.inw]
  rfl

theorem z_val (hR : Reads a w x T) (p : Fin 256) (e : Fin 2048) : a.z (ix2 p e) = zg w x (T + p.val) e := by
  unfold Src.z
  pointwise [k0_pay8]
  exact (pay7_val hR _ _).trans (by simp [zg])

theorem xbc_val (hR : Reads a w x T) (p : Fin 256) (j : Fin 2176) : a.xbc (ix2 p j) = raw w x (T + p.val) j := by
  unfold Src.xbc
  pointwise [k0_pay9]
  exact (pay7_val hR _ _).trans rfl

theorem dtr_val (hR : Reads a w x T) (p : Fin 256) (h : Fin 32) : a.dtr (ix2 p h) = dtr w x (T + p.val) h := by
  unfold Src.dtr
  pointwise [k0_pay10]
  exact (pay7_val hR _ _).trans rfl

theorem taps_val (hR : Reads a w x T) (k : Fin 4) (j : Fin 2176) : a.taps (ix2 k j) = w.cw j k := by
  unfold Src.taps
  pointwise [k0_pay11]
  exact hR.cw _ _

/-- A choice by a row number below a bound is the choice by the bound. -/
theorem pick_lt {α : Type} (n s : ℕ) (hn : n < 256) (hs : s < 256) (A B : α) :
    Scalar.select (IntOp.cmpi .slt (BitVec.ofNat 32 n) (BitVec.ofNat 32 s)) A B = if n < s then A else B := by
  rw [WordCmp.cmpi_slt_ofNat (by omega) (by omega)]
  by_cases h : n < s <;> simp [h, Scalar.select]

theorem tl_shift (hR : Reads a w x T) (k s : ℕ) (hks : k + s = 3) (p : ℕ) (hp : p < s) (j : Fin 2176) (q : Fin 8)
    (hq : q.val = (p + 8 - s) % 8) : a.tl (ix2 q j) = sh w x k (T + p) j := by
  have hq' : q.val = p + 8 - s := by omega
  rw [hR.tl, sh]
  by_cases h : 3 ≤ T + p + k
  · rw [if_pos h, if_pos (by omega)]
    congr 1; omega
  · rw [if_neg h, if_neg (by omega)]

theorem xbc_shift (hR : Reads a w x T) (k s : ℕ) (hks : k + s = 3) (p : ℕ) (hp : s ≤ p) (h256 : p < 256) (j : Fin 2176)
    (q : Fin 256) (hq : q.val = (p + 256 - s) % 256) : a.xbc (ix2 q j) = sh w x k (T + p) j := by
  have hq' : q.val = p - s := by omega
  rw [xbc_val hR, sh, if_pos (by omega)]
  congr 1; omega

theorem five_rev (b p q r s : EReal) : b + s + r + q + p = b + p + q + r + s := by ac_rfl

theorem conv_val (hR : Reads a w x T) (p : Fin 256) (j : Fin 2176) :
    k0_pay18 a.taps a.tl Src.row8 a.top2 a.rest2 a.rot3 (ix2 p j) = xbc w x (T + p.val) j := by
  unfold Src.top2 Src.rest2 Src.rot3
  pointwise [k0_pay18, k0_pay14, k0_pay15, k0_pay16, k0_pay12, k0_pay13, Src.row8]
  have hp := p.isLt
  have key : ∀ A B : EReal, A = B → A * Ideal.logistic A = act B := by rintro A _ rfl; rfl
  refine key _ _ ?_
  have h3 : a.xbc (ix2 p j) = sh w x 3 (T + p.val) j := xbc_shift hR 3 0 rfl _ (by omega) hp _ _ (by omega)
  split
  · rename_i h8
    rw [pick_lt _ 1 hp (by decide), pick_lt _ 2 hp (by decide), pick_lt _ 3 hp (by decide), h3]
    have s1 : (if p.val < 1 then a.tl (ix2 ⟨(p.val + 8 - 1) % 8, by omega⟩ j) else a.xbc (ix2 ⟨(p.val + 256 - 1) % 256, by omega⟩ j))
        = sh w x 2 (T + p.val) j := by
      split
      · exact tl_shift hR 2 1 rfl _ (by assumption) _ _ rfl
      · exact xbc_shift hR 2 1 rfl _ (by omega) hp _ _ rfl
    have s2 : (if p.val < 2 then a.tl (ix2 ⟨(p.val + 8 - 2) % 8, by omega⟩ j) else a.xbc (ix2 ⟨(p.val + 256 - 2) % 256, by omega⟩ j))
        = sh w x 1 (T + p.val) j := by
      split
      · exact tl_shift hR 1 2 rfl _ (by assumption) _ _ rfl
      · exact xbc_shift hR 1 2 rfl _ (by omega) hp _ _ rfl
    have s3 : (if p.val < 3 then a.tl (ix2 ⟨(p.val + 8 - 3) % 8, by omega⟩ j) else a.xbc (ix2 ⟨(p.val + 256 - 3) % 256, by omega⟩ j))
        = sh w x 0 (T + p.val) j := by
      split
      · exact tl_shift hR 0 3 rfl _ (by assumption) _ _ rfl
      · exact xbc_shift hR 0 3 rfl _ (by omega) hp _ _ rfl
    rw [s1, s2, s3]
    simp only [taps_val hR, hR.cb, Spec.conv]
    exact five_rev _ _ _ _ _
  · rename_i h8
    have g3 : a.xbc (ix2 ⟨8 + (p.val - 8), by omega⟩ j) = sh w x 3 (T + p.val) j :=
      xbc_shift hR 3 0 rfl _ (by omega) hp _ _ (by simp only; omega)
    have g2 : a.xbc (ix2 ⟨(8 + (p.val - 8) + 256 - 1) % 256, by omega⟩ j) = sh w x 2 (T + p.val) j :=
      xbc_shift hR 2 1 rfl _ (by omega) hp _ _ (by simp only; omega)
    have g1 : a.xbc (ix2 ⟨(8 + (p.val - 8) + 256 - 2) % 256, by omega⟩ j) = sh w x 1 (T + p.val) j :=
      xbc_shift hR 1 2 rfl _ (by omega) hp _ _ (by simp only; omega)
    have g0 : a.xbc (ix2 ⟨(8 + (p.val - 8) + 256 - 3) % 256, by omega⟩ j) = sh w x 0 (T + p.val) j :=
      xbc_shift hR 0 3 rfl _ (by omega) hp _ _ (by simp only; omega)
    rw [g3, g2, g1, g0]
    simp only [taps_val hR, hR.cb, Spec.conv]
    exact five_rev _ _ _ _ _

theorem xs_val (hR : Reads a w x T) (p : Fin 256) (e : Fin 2048) : a.xs (ix2 p e) = xs w x (T + p.val) e := by
  unfold Src.xs
  pointwise [k0_pay19]
  exact (conv_val hR _ _).trans (by simp [xs])

theorem bm_val (hR : Reads a w x T) (p : Fin 256) (n : Fin 64) : a.bm (ix2 p n) = bm w x (T + p.val) n := by
  unfold Src.bm
  pointwise [k0_pay20]
  exact (conv_val hR _ _).trans rfl

theorem cm_val (hR : Reads a w x T) (p : Fin 256) (n : Fin 64) : a.cm (ix2 p n) = cm w x (T + p.val) n := by
  unfold Src.cm
  pointwise [k0_pay21]
  exact (conv_val hR _ _).trans rfl

theorem dt_val (hR : Reads a w x T) (p : Fin 256) (h : Fin 32) : a.dt (ix2 p h) = dt w x (T + p.val) h := by
  unfold Src.dt
  pointwise [k0_pay22]
  simp only [hR.dtb, dtr_val hR, ne_eq, not_true_eq_false, if_false]
  unfold Spec.dt Spec.sp
  rw [zero_sub]
  rfl

theorem dtA_val (hR : Reads a w x T) (p : Fin 256) (h : Fin 32) : a.dtA (ix2 h p) = dA w x (T + p.val) h := by
  unfold Src.dtA Src.ea
  pointwise [k0_pay24, k0_pay23]
  simp only [hR.alog, dt_val hR, zero_sub]
  rfl

/-- A sum against the spread matrix keeps the channel's own head. -/
theorem spread_sum (f g : Fin 32 → EReal) (e : Fin 2048) (hg : ∀ h, g h = if hd e = h then 1 else 0) :
    ∑ h, f h * g h = f (hd e) := by
  simp only [hg, mul_ite, mul_one, mul_zero, Finset.sum_ite_eq, Finset.mem_univ, if_true]

theorem ex_val (hR : Reads a w x T) (h : Fin 32) (e : Fin 2048) : a.ex (ix2 h e) = if hd e = h then 1 else 0 := by
  unfold Src.ex
  pointwise [k0_pay25]
  exact hR.ee h e

theorem xd_val (hR : Reads a w x T) (p : Fin 256) (e : Fin 2048) : a.xd (ix2 p e) = xd w x (T + p.val) e := by
  unfold Src.xd
  pointwise [k0_pay26, k0_pay25]
  rw [spread_sum (fun h => a.dt (ix2 p h)) _ e (fun h => hR.ee h e), xs_val hR, dt_val hR]
  rfl

/-- A choice by two row numbers of a subtile is the choice by their order. -/
theorem pick_ge {α : Type} (m n : ℕ) (hm : m < 256) (hn : n < 256) (A B : α) :
    Scalar.select (IntOp.cmpi .sge (BitVec.ofNat 32 m) (BitVec.ofNat 32 n)) A B = if n ≤ m then A else B := by
  rw [WordCmp.cmpi_sge_ofNat (by omega) (by omega)]
  by_cases h : n ≤ m <;> simp [h, Scalar.select]

theorem g0_val (hR : Reads a w x T) (p q : Fin 128) :
    a.g0 (ix2 p q) = if q.val ≤ p.val then ∑ n, cm w x (T + p.val) n * bm w x (T + q.val) n else 0 := by
  unfold Src.g0
  pointwise [k0_pay38, k0_pay37, k0_pay36, Src.tri, k0_pay27]
  simp only [bm_val hR, cm_val hR]
  exact pick_ge _ _ (by omega) (by omega) _ _

theorem g1_val (hR : Reads a w x T) (p q : Fin 128) :
    a.g1 (ix2 p q) = if q.val ≤ p.val then ∑ n, cm w x (T + 128 + p.val) n * bm w x (T + 128 + q.val) n else 0 := by
  unfold Src.g1
  pointwise [k0_pay102, k0_pay101, k0_pay100, Src.tri, k0_pay27]
  simp only [bm_val hR, cm_val hR, add_assoc]
  exact pick_ge _ _ (by omega) (by omega) _ _

/-- The sum of the last `n` terms up to `p`. -/
def win (f : ℕ → EReal) (n p : ℕ) : EReal := ∑ s ∈ Finset.Ico (p + 1 - n) (p + 1), f s

/-- Adding the window that ends `n` places earlier doubles the window. -/
theorem win_double (f : ℕ → EReal) (n p : ℕ) : win f n p + (if p < n then 0 else win f n (p - n)) = win f (2 * n) p := by
  unfold win
  split
  · rw [add_zero, show p + 1 - n = p + 1 - 2 * n by omega]
  · rw [add_comm, show p - n + 1 = p + 1 - n by omega, show p + 1 - n - n = p + 1 - 2 * n by omega]
    exact Finset.sum_Ico_consecutive f (by omega) (by omega)

/-- One doubling of a running sum along the lanes. -/
theorem double_step (u : FVec Ideal S32x128 .f32) (f : Fin 32 → ℕ → EReal) (n : ℕ) (hn : n < 128)
    (hu : ∀ h (p : Fin 128), u (ix2 h p) = win (f h) n p.val) (h : Fin 32) (p : Fin 128) :
    addf u (select (cmpi .slt (iota .tc S32x128 32 [1] iota_S32x128_d1_w32) (broadcast S32x128 (BitVec.ofNat 32 n)))
      (broadcast S32x128 (Scalar.ofBits (F := Ideal) .f32 0x00000000#32))
      (dynamicRotate 1 (BitVec.ofNat 32 n) none u rotates_S32x128_d1)) (ix2 h p) = win (f h) (2 * n) p.val := by
  have hp := p.isLt
  have hm : (BitVec.ofNat 32 n).toNat = n := by rw [BitVec.toNat_ofNat]; exact Nat.mod_eq_of_lt (by omega)
  pointwise
  rw [pick_lt _ _ (by omega) (by omega), ← win_double, hu, hu]
  congr 1
  split
  · rfl
  · congr 1
    show (p.val + 128 - (BitVec.ofNat 32 n).toNat % 128) % 128 = _
    rw [hm]; omega

theorem acs0_win (hR : Reads a w x T) : ∀ h (p : Fin 128), a.acs0 (ix2 h p) = win (fun s => dA w x (T + s) h) 128 p.val := by
  have h0 : ∀ h (p : Fin 128), extractStridedSlice S32x128 ![0, 0] (k0_pay24 a.dt a.ea) slices_S32x256_o0_0_S32x128 (ix2 h p)
      = win (fun s => dA w x (T + s) h) 1 p.val := by
    intro h p
    pointwise
    refine (dtA_val hR _ h).trans ?_
    simp [win]
  exact double_step _ _ 64 (by decide) (double_step _ _ 32 (by decide) (double_step _ _ 16 (by decide)
    (double_step _ _ 8 (by decide) (double_step _ _ 4 (by decide) (double_step _ _ 2 (by decide)
    (double_step _ _ 1 (by decide) h0))))))

theorem acs1_win (hR : Reads a w x T) : ∀ h (p : Fin 128), a.acs1 (ix2 h p) = win (fun s => dA w x (T + 128 + s) h) 128 p.val := by
  have h0 : ∀ h (p : Fin 128), k0_pay89 a.dtA (ix2 h p)
      = win (fun s => dA w x (T + 128 + s) h) 1 p.val := by
    intro h p
    pointwise [k0_pay89]
    refine (dtA_val hR _ h).trans ?_
    simp [win, add_assoc]
  exact double_step _ _ 64 (by decide) (double_step _ _ 32 (by decide) (double_step _ _ 16 (by decide)
    (double_step _ _ 8 (by decide) (double_step _ _ 4 (by decide) (double_step _ _ 2 (by decide)
    (double_step _ _ 1 (by decide) h0))))))

/-- The running log decay of the first subtile. -/
theorem acs0_val (hR : Reads a w x T) (p : Fin 128) (h : Fin 32) :
    a.acs0 (ix2 h p) = ∑ s ∈ Finset.range (p.val + 1), dA w x (T + s) h := by
  rw [acs0_win hR, win, show p.val + 1 - 128 = 0 by omega, Nat.Ico_zero_eq_range]

/-- The running log decay of the second subtile. -/
theorem acs1_val (hR : Reads a w x T) (p : Fin 128) (h : Fin 32) :
    a.acs1 (ix2 h p) = ∑ s ∈ Finset.range (p.val + 1), dA w x (T + 128 + s) h := by
  rw [acs1_win hR, win, show p.val + 1 - 128 = 0 by omega, Nat.Ico_zero_eq_range]

theorem acs0_lc (hR : Reads a w x T) (p : Fin 128) (h : Fin 32) : a.acs0 (ix2 h p) = lc w x T p.val h := acs0_val hR p h

theorem acs1_lc (hR : Reads a w x T) (p : Fin 128) (h : Fin 32) : a.acs1 (ix2 h p) = lc w x (T + 128) p.val h := acs1_val hR p h

theorem acsT0_val (hR : Reads a w x T) (p : Fin 128) (h : Fin 32) : a.acsT0 (ix2 p h) = lc w x T p.val h := by
  unfold Src.acsT0
  pointwise [k0_pay32]
  exact acs0_lc hR p h

theorem acsT1_val (hR : Reads a w x T) (p : Fin 128) (h : Fin 32) : a.acsT1 (ix2 p h) = lc w x (T + 128) p.val h := by
  unfold Src.acsT1
  pointwise [k0_pay94]
  exact acs1_lc hR p h

theorem grow0_val (hR : Reads a w x T) (p : Fin 128) (e : Fin 2048) :
    a.grow0 (ix2 p e) = Ideal.exp (lc w x T p.val (hd e)) := by
  unfold Src.grow0
  pointwise [k0_pay34]
  exact (spread_sum (fun h => Ideal.exp (a.acsT0 (ix2 p h))) _ e (fun h => ex_val hR h e)).trans (by rw [acsT0_val hR])

theorem tot0_val (hR : Reads a w x T) (e : Fin 2048) :
    a.tot0 (ix2 0 e) = Ideal.exp (lc w x T 127 (hd e)) := by
  unfold Src.tot0
  pointwise [k0_pay35, k0_pay33]
  exact (spread_sum (fun h => Ideal.exp (a.acsT0 (ix2 127 h))) _ e (fun h => ex_val hR h e)).trans (by rw [acsT0_val hR]; rfl)

theorem grow1_val (hR : Reads a w x T) (p : Fin 128) (e : Fin 2048) :
    a.grow1 (ix2 p e) = Ideal.exp (lc w x (T + 128) p.val (hd e)) := by
  unfold Src.grow1 Src.eacs1
  pointwise [k0_pay98, k0_pay96]
  exact (spread_sum (fun h => Ideal.exp (a.acsT1 (ix2 p h))) _ e (fun h => ex_val hR h e)).trans (by rw [acsT1_val hR])

theorem tot1_val (hR : Reads a w x T) (e : Fin 2048) :
    a.tot1 (ix2 0 e) = Ideal.exp (lc w x (T + 128) 127 (hd e)) := by
  unfold Src.tot1 Src.totA1
  pointwise [k0_pay99, k0_pay95]
  exact (spread_sum (fun h => Ideal.exp (a.acsT1 (ix2 127 h))) _ e (fun h => ex_val hR h e)).trans (by rw [acsT1_val hR]; rfl)

theorem cst0_val (hR : Reads a w x T) (p : Fin 128) (e : Fin 2048) :
    a.cst0 (ix2 p e) = ∑ n, cm w x (T + p.val) n * a.st (ix2 n e) := by
  unfold Src.cst0
  pointwise [k0_pay39, k0_pay37]
  simp only [cm_val hR]

theorem cst1_val (hR : Reads a w x T) (p : Fin 128) (e : Fin 2048) :
    a.cst1 (ix2 p e) = ∑ n, cm w x (T + 128 + p.val) n * a.st1 (ix2 n e) := by
  unfold Src.cst1
  pointwise [k0_pay103, k0_pay101]
  simp only [cm_val hR, add_assoc]

theorem xw0_val (hR : Reads a w x T) (p : Fin 128) (e : Fin 2048) :
    a.xw0 (ix2 p e) = xd w x (T + p.val) e * Ideal.exp (lc w x T 127 (hd e) - lc w x T p.val (hd e)) := by
  unfold Src.xw0
  pointwise [k0_pay40, k0_pay33]
  rw [xd_val hR]
  congr 1
  exact (spread_sum (fun h => Ideal.exp (a.acsT0 (ix2 127 h) - a.acsT0 (ix2 p h))) _ e (fun h => ex_val hR h e)).trans
    (by rw [acsT0_val hR, acsT0_val hR]; rfl)

theorem xw1_val (hR : Reads a w x T) (p : Fin 128) (e : Fin 2048) :
    a.xw1 (ix2 p e) = xd w x (T + 128 + p.val) e * Ideal.exp (lc w x (T + 128) 127 (hd e) - lc w x (T + 128) p.val (hd e)) := by
  unfold Src.xw1 Src.totAb1
  pointwise [k0_pay104, k0_pay97, k0_pay95]
  rw [xd_val hR, add_assoc]
  congr 1
  exact (spread_sum (fun h => Ideal.exp (a.acsT1 (ix2 127 h) - a.acsT1 (ix2 p h))) _ e (fun h => ex_val hR h e)).trans
    (by rw [acsT1_val hR, acsT1_val hR]; rfl)

/-- The state after the first subtile. -/
theorem st1_val (hR : Reads a w x T) (n : Fin 64) (e : Fin 2048) :
    a.st1 (ix2 n e) = tileSt w x T (fun n e => a.st (ix2 n e)) n e := by
  unfold Src.st1 Src.b0
  pointwise [k0_pay84, k0_pay36]
  simp only [tot0_val hR, bm_val hR, xw0_val hR]
  rfl

/-- The state after the second subtile. -/
theorem st2_val (hR : Reads a w x T) (n : Fin 64) (e : Fin 2048) :
    a.st2 (ix2 n e) = tileSt w x (T + 128) (fun n e => a.st1 (ix2 n e)) n e := by
  unfold Src.st2 Src.b1
  pointwise [k0_pay159, k0_pay100]
  simp only [tot1_val hR, bm_val hR, xw1_val hR, ← add_assoc]
  rfl

/-- A head's output at a row of its subtile. -/
theorem headOf_val (row : ℕ) (hr : row + 128 ≤ 256) (xd : FVec Ideal S256x2048 .bf16) (g : FVec Ideal S128x128 .f32)
    (acs : FVec Ideal S32x128 .f32) (acsT : FVec Ideal S128x32 .f32) (h : Fin 32) (p : Fin 128) (j : Fin 64) :
    headOf row hr xd g acs acsT h (ix2 p j) = ∑ q : Fin 128, g (ix2 p q)
      * Ideal.exp (min (acsT (ix2 p h) - acs (ix2 h q)) 0)
      * xd (ix2 ⟨row + q.val, by omega⟩ ⟨64 * h.val + j.val, by omega⟩) := by
  unfold headOf
  pointwise

theorem y0_val (hR : Reads a w x T) (p : Fin 128) (e : Fin 2048) :
    a.y0 (ix2 p e) = ∑ q : Fin 128, (if q.val ≤ p.val then ∑ n, cm w x (T + p.val) n * bm w x (T + q.val) n else 0)
      * Ideal.exp (min (lc w x T p.val (hd e) - lc w x T q.val (hd e)) 0) * xd w x (T + q.val) e := by
  refine (headOf_val 0 (by decide) a.xd a.g0 a.acs0 a.acsT0 (hd e) p ⟨e.val % 64, by omega⟩).trans ?_
  refine Finset.sum_congr rfl fun q _ => ?_
  rw [g0_val hR, acsT0_val hR, acs0_lc hR, xd_val hR]
  congr 2
  · show T + (0 + q.val) = _; omega
  · exact Fin.ext (show 64 * (e.val / 64) + e.val % 64 = e.val by omega)

theorem y1_val (hR : Reads a w x T) (p : Fin 128) (e : Fin 2048) :
    a.y1 (ix2 p e) = ∑ q : Fin 128, (if q.val ≤ p.val then ∑ n, cm w x (T + 128 + p.val) n * bm w x (T + 128 + q.val) n else 0)
      * Ideal.exp (min (lc w x (T + 128) p.val (hd e) - lc w x (T + 128) q.val (hd e)) 0) * xd w x (T + 128 + q.val) e := by
  refine (headOf_val 128 (by decide) a.xd a.g1 a.acs1 a.acsT1 (hd e) p ⟨e.val % 64, by omega⟩).trans ?_
  refine Finset.sum_congr rfl fun q _ => ?_
  rw [g1_val hR, acsT1_val hR, acs1_lc hR, xd_val hR]
  congr 2
  · show T + (128 + q.val) = _; omega
  · exact Fin.ext (show 64 * (e.val / 64) + e.val % 64 = e.val by omega)

/-- The first subtile before the gate. -/
theorem ys0_val (hR : Reads a w x T) (p : Fin 128) (e : Fin 2048) :
    a.ys0 (ix2 p e) = tileY w x T (fun n e => a.st (ix2 n e)) p.val e + w.dd (hd e) * xs w x (T + p.val) e := by
  unfold Src.ys0
  pointwise [k0_pay85]
  rw [y0_val hR, grow0_val hR, cst0_val hR, hR.dd, xs_val hR]
  rfl

/-- The first half of the new block. -/
theorem lo_val (hR : Reads a w x T) (p : Fin 128) (d : Fin 1024)
    (hy : ∀ e, tileY w x T (fun n e => a.st (ix2 n e)) p.val e = y w x (T + p.val) e) :
    a.lo (ix2 p d) = layer w x (T + p.val) d := by
  have hu : ∀ e, a.ys0 (ix2 p e) * (a.z (ix2 ⟨p.val, by omega⟩ e) * Ideal.logistic (a.z (ix2 ⟨p.val, by omega⟩ e))) = u w x (T + p.val) e := by
    intro e
    rw [ys0_val hR, hy, z_val hR]
    rfl
  unfold Src.lo
  pointwise [k0_pay87, k0_pay86]
  simp only [hu, hR.gn, hR.outw, hR.r]
  rfl

/-- The second half of the new block. -/
theorem hi_val (hR : Reads a w x T) (p : Fin 128) (d : Fin 1024)
    (hy : ∀ e, tileY w x (T + 128) (fun n e => a.st1 (ix2 n e)) p.val e = y w x (T + 128 + p.val) e) :
    a.hi (ix2 p d) = layer w x (T + 128 + p.val) d := by
  have hu : ∀ e, (a.y1 (ix2 p e) + a.grow1 (ix2 p e) * a.cst1 (ix2 p e) + a.dd (ix3 0 0 e) * a.xs (ix2 ⟨128 + p.val, by omega⟩ e))
      * (a.z (ix2 ⟨128 + p.val, by omega⟩ e) * Ideal.logistic (a.z (ix2 ⟨128 + p.val, by omega⟩ e))) = u w x (T + 128 + p.val) e := by
    intro e
    rw [y1_val hR, grow1_val hR, cst1_val hR, hR.dd, xs_val hR, z_val hR, ← add_assoc]
    have := hy e
    unfold tileY at this
    rw [this]
    rfl
  unfold Src.hi Src.ys1
  pointwise [k0_pay2, k0_pay1, k0_pay160]
  simp only [hu, hR.gn, hR.outw, hR.r, ← add_assoc]
  rfl

/-- The rows handed to the next block. -/
theorem tl'_val (hR : Reads a w x T) (k : Fin 8) (j : Fin 2176) : a.tl' (ix2 k j) = raw w x (T + 248 + k.val) j := by
  unfold Src.tl'
  pointwise [k0_pay17]
  rw [xbc_val hR, add_assoc]

end Cert.KernelIdeal
-- ==== Proof.KernelIdeal.Blocks.lean ====
module

public import proofs.«01_k».proof.Proof.KernelIdeal.Vals
public import proofs.«01_k».proof.Proof.KernelIdeal.Grid

@[expose] public section

set_option maxRecDepth 16384

noncomputable section

/-! # What the windows hold

Each window's block at a grid point, as a function of the arguments. -/

namespace Cert.KernelIdeal

open Idealize.ShloMosaic Idealize.ShloMosaic.TcCoe Idealize.ShloMosaic.Tactic Cert.Spec Cert.KernelIdeal.Gen
open Idealize.SL.Sem

variable (m : (ℓ : Loc nD τ sig) → Buf (Elt Ideal) ℓ) (c : Dev nD)

/-- The weights, by layer. -/
def wts : Fin 4 → Wt :=
  wtOf (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The input sequence of a batch. -/
def inp (b : Fin 2) : ℕ → Fin 1024 → EReal := seq (m ((c : Thread nD τ).loc main_arg0)) b

theorem V_inw (i : Fin 4) (k : Fin 1024) (e : Fin 4256) : V m c main_call0_v1 (ix3 i k e) = (wts m c i).iw e k := by
  have h : V m c main_call0_v1 = truncf (F := Ideal) .bf16 (transpose S4x1024x4256 [0, 2, 1] (m ((c : Thread nD τ).loc main_arg1)) transposes_S4x4256x1024_S4x1024x4256_0_2_1) bitsLt_bf16_f32 := by
    unfold_abbrev_sides
    after_results
    rfl
  rw [h]
  pointwise
  rfl

theorem V_cw (i : Fin 4) (k : Fin 4) (j : Fin 2176) : V m c main_call0_v4 (ix3 i k j) = (wts m c i).cw j k := by
  have h : V m c main_call0_v4 = transpose S4x4x2176 [0, 2, 1] (m ((c : Thread nD τ).loc main_arg2)) transposes_S4x2176x4_S4x4x2176_0_2_1 := by
    unfold_abbrev_sides
    after_results
    rfl
  rw [h]
  pointwise
  rfl

theorem V_cb (i : Fin 4) (o : Fin 1) (j : Fin 2176) : V m c main_call0_v5 (ix3 i o j) = (wts m c i).cb j := by
  have h : V m c main_call0_v5 = broadcastInDim S4x1x2176 ![0, 2] bcast_S4x2176_S4x1x2176_0_2 (m ((c : Thread nD τ).loc main_arg3)) := by
    unfold_abbrev_sides
    after_results
    rfl
  rw [h]
  pointwise
  rfl

theorem V_dtb (i : Fin 4) (o : Fin 1) (j : Fin 32) : V m c main_call0_v6 (ix3 i o j) = (wts m c i).dtb j := by
  have h : V m c main_call0_v6 = broadcastInDim S4x1x32 ![0, 2] bcast_S4x32_S4x1x32_0_2 (m ((c : Thread nD τ).loc main_arg4)) := by
    unfold_abbrev_sides
    after_results
    rfl
  rw [h]
  pointwise
  rfl

theorem V_al (i : Fin 4) (o : Fin 1) (j : Fin 32) : V m c main_call0_v7 (ix3 i o j) = (wts m c i).al j := by
  have h : V m c main_call0_v7 = broadcastInDim S4x1x32 ![0, 2] bcast_S4x32_S4x1x32_0_2 (m ((c : Thread nD τ).loc main_arg5)) := by
    unfold_abbrev_sides
    after_results
    rfl
  rw [h]
  pointwise
  rfl

theorem V_dd (i : Fin 4) (o : Fin 1) (e : Fin 2048) : V m c main_call0_v10 (ix3 i o e) = (wts m c i).dd (hd e) := by
  have h : V m c main_call0_v10 = broadcastInDim S4x1x2048 ![0, 2] bcast_S4x2048_S4x1x2048_0_2 (shapeCast S4x2048 (broadcastInDim S4x32x64 ![0, 1] bcast_S4x32_S4x32x64_0_1 (m ((c : Thread nD τ).loc main_arg6))) shapeCasts_S4x32x64_S4x2048) := by
    unfold_abbrev_sides
    after_results
    rfl
  rw [h]
  pointwise
  rfl

theorem V_gn (i : Fin 4) (o : Fin 1) (e : Fin 2048) : V m c main_call0_v11 (ix3 i o e) = (wts m c i).gn e := by
  have h : V m c main_call0_v11 = broadcastInDim S4x1x2048 ![0, 2] bcast_S4x2048_S4x1x2048_0_2 (m ((c : Thread nD τ).loc main_arg7)) := by
    unfold_abbrev_sides
    after_results
    rfl
  rw [h]
  pointwise
  rfl

theorem V_ow (i : Fin 4) (e : Fin 2048) (d : Fin 1024) : V m c main_call0_v3 (ix3 i e d) = (wts m c i).ow d e := by
  have h : V m c main_call0_v3 = truncf (F := Ideal) .bf16 (transpose S4x2048x1024 [0, 2, 1] (m ((c : Thread nD τ).loc main_arg8)) transposes_S4x1024x2048_S4x2048x1024_0_2_1) bitsLt_bf16_f32 := by
    unfold_abbrev_sides
    after_results
    rfl
  rw [h]
  pointwise
  rfl

theorem V_rw (i : Fin 4) (o : Fin 1) (d : Fin 1024) : V m c main_call0_v12 (ix3 i o d) = (wts m c i).rw d := by
  have h : V m c main_call0_v12 = broadcastInDim S4x1x1024 ![0, 2] bcast_S4x1024_S4x1x1024_0_2 (m ((c : Thread nD τ).loc main_arg9)) := by
    unfold_abbrev_sides
    after_results
    rfl
  rw [h]
  pointwise
  rfl

theorem V_ee (h : Fin 32) (e : Fin 2048) : V m c main_call0_v21 (ix2 h e) = (if hd e = h then 1 else 0 : EReal) := by
  have h : V m c main_call0_v21 = truncf (F := Ideal) .bf16 (shapeCast S32x2048 (broadcastInDim S32x32x64 ![0, 1] bcast_S32x32_S32x32x64_0_1 (uitofp (F := Ideal) .f32 (cmpi .eq (addi (iotaInDim S32x32 32 0) (broadcastInDim S32x32 ![] bcast_S_S32x32 (constantI S_ 32 0#32))) (iotaInDim S32x32 32 1)))) shapeCasts_S32x32x64_S32x2048) bitsLt_bf16_f32 := by
    unfold_abbrev_sides
    after_results
    rfl
  rw [h]
  pointwise
  have hb : ∀ h k : Fin 32, IntOp.cmpi .eq (IntOp.addi (BitVec.ofNat 32 h.val) 0#32) (BitVec.ofNat 32 k.val) = if k = h then 1#1 else 0#1 := by decide
  refine (congrArg (FloatOps.uitofp (F := Ideal) .f32) (hb _ (hd e))).trans ?_
  split
  · show (((_ : BitVec 1).toNat : ℝ) : EReal) = _; simp
  · show (((_ : BitVec 1).toNat : ℝ) : EReal) = _; simp

theorem idx_all : ∀ t : Fin grid0.N,
    (win0_1.index t 0 = t.val / 8 % 4 ∧ win0_1.index t 1 = 0 ∧ win0_1.index t 2 = 0)
    ∧ (win0_2.index t 0 = t.val / 8 % 4 ∧ win0_2.index t 1 = 0 ∧ win0_2.index t 2 = 0)
    ∧ (win0_3.index t 0 = t.val / 8 % 4 ∧ win0_3.index t 1 = 0 ∧ win0_3.index t 2 = 0)
    ∧ (win0_4.index t 0 = t.val / 8 % 4 ∧ win0_4.index t 1 = 0 ∧ win0_4.index t 2 = 0)
    ∧ (win0_5.index t 0 = t.val / 8 % 4 ∧ win0_5.index t 1 = 0 ∧ win0_5.index t 2 = 0)
    ∧ (win0_6.index t 0 = t.val / 8 % 4 ∧ win0_6.index t 1 = 0 ∧ win0_6.index t 2 = 0)
    ∧ (win0_7.index t 0 = t.val / 8 % 4 ∧ win0_7.index t 1 = 0 ∧ win0_7.index t 2 = 0)
    ∧ (win0_8.index t 0 = t.val / 8 % 4 ∧ win0_8.index t 1 = 0 ∧ win0_8.index t 2 = 0)
    ∧ (win0_9.index t 0 = t.val / 8 % 4 ∧ win0_9.index t 1 = 0 ∧ win0_9.index t 2 = 0)
    ∧ (win0_10.index t 0 = 0 ∧ win0_10.index t 1 = 0)
    ∧ (t.val / 8 % 4 = 0 → win0_0.index t 0 = t.val / 32 % 2 ∧ win0_0.index t 1 = t.val % 8 ∧ win0_0.index t 2 = 0)
    ∧ (win0_11.index t 0 = t.val / 32 % 2 ∧ win0_11.index t 1 = t.val % 8 ∧ win0_11.index t 2 = 0) := by
  decide +kernel

/-- The layer of a grid point. -/
def lay (t : Fin cfg0.N) : Fin 4 := ⟨t.val / 8 % 4, Nat.mod_lt _ (by decide)⟩

theorem iblk_1 (t : Fin cfg0.N) (k : Fin 1024) (e : Fin 4256) : iblk m c 1 t (ix3 0 k e) = (wts m c (lay t)).iw e k := by
  obtain ⟨e0, e1, e2⟩ := (idx_all t).1
  refine Eq.trans ?_ (V_inw m c (lay t) k e)
  show V m c main_call0_v1 (((cfg0.win 1).blk t).view.emb (ix3 0 k e)) = _
  congr 1
  funext a; apply Fin.ext
  match a with
  | ⟨0, _⟩ => show win0_1.index t 0 * 1 + 1 * 0 = t.val / 8 % 4; omega
  | ⟨1, _⟩ => show win0_1.index t 1 * 1024 + 1 * k.val = k.val; omega
  | ⟨2, _⟩ => show win0_1.index t 2 * 4256 + 1 * e.val = e.val; omega

theorem iblk_2 (t : Fin cfg0.N) (k : Fin 4) (j : Fin 2176) : iblk m c 2 t (ix3 0 k j) = (wts m c (lay t)).cw j k := by
  obtain ⟨e0, e1, e2⟩ := (idx_all t).2.1
  refine Eq.trans ?_ (V_cw m c (lay t) k j)
  show V m c main_call0_v4 (((cfg0.win 2).blk t).view.emb (ix3 0 k j)) = _
  congr 1
  funext a; apply Fin.ext
  match a with
  | ⟨0, _⟩ => show win0_2.index t 0 * 1 + 1 * 0 = t.val / 8 % 4; omega
  | ⟨1, _⟩ => show win0_2.index t 1 * 4 + 1 * k.val = k.val; omega
  | ⟨2, _⟩ => show win0_2.index t 2 * 2176 + 1 * j.val = j.val; omega

theorem iblk_3 (t : Fin cfg0.N) (j : Fin 2176) : iblk m c 3 t (ix3 0 0 j) = (wts m c (lay t)).cb j := by
  obtain ⟨e0, e1, e2⟩ := (idx_all t).2.2.1
  refine Eq.trans ?_ (V_cb m c (lay t) 0 j)
  show V m c main_call0_v5 (((cfg0.win 3).blk t).view.emb (ix3 0 0 j)) = _
  congr 1
  funext a; apply Fin.ext
  match a with
  | ⟨0, _⟩ => show win0_3.index t 0 * 1 + 1 * 0 = t.val / 8 % 4; omega
  | ⟨1, _⟩ => show win0_3.index t 1 * 1 + 1 * 0 = 0; omega
  | ⟨2, _⟩ => show win0_3.index t 2 * 2176 + 1 * j.val = j.val; omega

theorem iblk_4 (t : Fin cfg0.N) (j : Fin 32) : iblk m c 4 t (ix3 0 0 j) = (wts m c (lay t)).dtb j := by
  obtain ⟨e0, e1, e2⟩ := (idx_all t).2.2.2.1
  refine Eq.trans ?_ (V_dtb m c (lay t) 0 j)
  show V m c main_call0_v6 (((cfg0.win 4).blk t).view.emb (ix3 0 0 j)) = _
  congr 1
  funext a; apply Fin.ext
  match a with
  | ⟨0, _⟩ => show win0_4.index t 0 * 1 + 1 * 0 = t.val / 8 % 4; omega
  | ⟨1, _⟩ => show win0_4.index t 1 * 1 + 1 * 0 = 0; omega
  | ⟨2, _⟩ => show win0_4.index t 2 * 32 + 1 * j.val = j.val; omega

theorem iblk_5 (t : Fin cfg0.N) (j : Fin 32) : iblk m c 5 t (ix3 0 0 j) = (wts m c (lay t)).al j := by
  obtain ⟨e0, e1, e2⟩ := (idx_all t).2.2.2.2.1
  refine Eq.trans ?_ (V_al m c (lay t) 0 j)
  show V m c main_call0_v7 (((cfg0.win 5).blk t).view.emb (ix3 0 0 j)) = _
  congr 1
  funext a; apply Fin.ext
  match a with
  | ⟨0, _⟩ => show win0_5.index t 0 * 1 + 1 * 0 = t.val / 8 % 4; omega
  | ⟨1, _⟩ => show win0_5.index t 1 * 1 + 1 * 0 = 0; omega
  | ⟨2, _⟩ => show win0_5.index t 2 * 32 + 1 * j.val = j.val; omega

theorem iblk_6 (t : Fin cfg0.N) (j : Fin 2048) : iblk m c 6 t (ix3 0 0 j) = (wts m c (lay t)).dd (hd j) := by
  obtain ⟨e0, e1, e2⟩ := (idx_all t).2.2.2.2.2.1
  refine Eq.trans ?_ (V_dd m c (lay t) 0 j)
  show V m c main_call0_v10 (((cfg0.win 6).blk t).view.emb (ix3 0 0 j)) = _
  congr 1
  funext a; apply Fin.ext
  match a with
  | ⟨0, _⟩ => show win0_6.index t 0 * 1 + 1 * 0 = t.val / 8 % 4; omega
  | ⟨1, _⟩ => show win0_6.index t 1 * 1 + 1 * 0 = 0; omega
  | ⟨2, _⟩ => show win0_6.index t 2 * 2048 + 1 * j.val = j.val; omega

theorem iblk_7 (t : Fin cfg0.N) (j : Fin 2048) : iblk m c 7 t (ix3 0 0 j) = (wts m c (lay t)).gn j := by
  obtain ⟨e0, e1, e2⟩ := (idx_all t).2.2.2.2.2.2.1
  refine Eq.trans ?_ (V_gn m c (lay t) 0 j)
  show V m c main_call0_v11 (((cfg0.win 7).blk t).view.emb (ix3 0 0 j)) = _
  congr 1
  funext a; apply Fin.ext
  match a with
  | ⟨0, _⟩ => show win0_7.index t 0 * 1 + 1 * 0 = t.val / 8 % 4; omega
  | ⟨1, _⟩ => show win0_7.index t 1 * 1 + 1 * 0 = 0; omega
  | ⟨2, _⟩ => show win0_7.index t 2 * 2048 + 1 * j.val = j.val; omega

theorem iblk_9 (t : Fin cfg0.N) (j : Fin 1024) : iblk m c 9 t (ix3 0 0 j) = (wts m c (lay t)).rw j := by
  obtain ⟨e0, e1, e2⟩ := (idx_all t).2.2.2.2.2.2.2.2.1
  refine Eq.trans ?_ (V_rw m c (lay t) 0 j)
  show V m c main_call0_v12 (((cfg0.win 9).blk t).view.emb (ix3 0 0 j)) = _
  congr 1
  funext a; apply Fin.ext
  match a with
  | ⟨0, _⟩ => show win0_9.index t 0 * 1 + 1 * 0 = t.val / 8 % 4; omega
  | ⟨1, _⟩ => show win0_9.index t 1 * 1 + 1 * 0 = 0; omega
  | ⟨2, _⟩ => show win0_9.index t 2 * 1024 + 1 * j.val = j.val; omega

theorem iblk_8 (t : Fin cfg0.N) (e : Fin 2048) (d : Fin 1024) : iblk m c 8 t (ix3 0 e d) = (wts m c (lay t)).ow d e := by
  obtain ⟨e0, e1, e2⟩ := (idx_all t).2.2.2.2.2.2.2.1
  refine Eq.trans ?_ (V_ow m c (lay t) e d)
  show V m c main_call0_v3 (((cfg0.win 8).blk t).view.emb (ix3 0 e d)) = _
  congr 1
  funext a; apply Fin.ext
  match a with
  | ⟨0, _⟩ => show win0_8.index t 0 * 1 + 1 * 0 = t.val / 8 % 4; omega
  | ⟨1, _⟩ => show win0_8.index t 1 * 2048 + 1 * e.val = e.val; omega
  | ⟨2, _⟩ => show win0_8.index t 2 * 1024 + 1 * d.val = d.val; omega

theorem iblk_10 (t : Fin cfg0.N) (h : Fin 32) (e : Fin 2048) : iblk m c 10 t (ix2 h e) = (if hd e = h then 1 else 0 : EReal) := by
  obtain ⟨e0, e1⟩ := (idx_all t).2.2.2.2.2.2.2.2.2.1
  refine Eq.trans ?_ (V_ee m c h e)
  show V m c main_call0_v21 (((cfg0.win 10).blk t).view.emb (ix2 h e)) = _
  congr 1
  funext a; apply Fin.ext
  match a with
  | ⟨0, _⟩ => show win0_10.index t 0 * 32 + 1 * h.val = h.val; omega
  | ⟨1, _⟩ => show win0_10.index t 1 * 2048 + 1 * e.val = e.val; omega

/-- In the first layer the first window's block is the chunk of the input. -/
theorem iblk_0 (t : Fin cfg0.N) (h0 : t.val / 8 % 4 = 0) (p : Fin 256) (d : Fin 1024) :
    iblk m c 0 t (ix3 0 p d) = inp m c ⟨t.val / 32 % 2, Nat.mod_lt _ (by decide)⟩ (256 * (t.val % 8) + p.val) d := by
  obtain ⟨e0, e1, e2⟩ := (idx_all t).2.2.2.2.2.2.2.2.2.2.1 h0
  have hlt : 256 * (t.val % 8) + p.val < 2048 := by omega
  unfold inp seq
  rw [dif_pos hlt]
  refine Eq.trans ?_ (congrFun (V_main_arg0 m c) _)
  show V m c main_arg0 (((cfg0.win 0).blk t).view.emb (ix3 0 p d)) = _
  congr 1
  funext a; apply Fin.ext
  match a with
  | ⟨0, _⟩ => show win0_0.index t 0 * 1 + 1 * 0 = t.val / 32 % 2; omega
  | ⟨1, _⟩ => show win0_0.index t 1 * 256 + 1 * p.val = 256 * (t.val % 8) + p.val; omega
  | ⟨2, _⟩ => show win0_0.index t 2 * 1024 + 1 * d.val = d.val; omega

end Cert.KernelIdeal
-- ==== Proof.Scan.lean ====
module

public import proofs.«01_k».proof.Proof.Spec

@[expose] public section

noncomputable section

/-! # The scan by tiles of 128 positions

Over the reals, the scan that reads every earlier position equals the tile-by-tile computation that carries a state. -/

namespace Cert.Scan

open scoped BigOperators

variable (A X : ℕ → ℝ) (B C : ℕ → Fin 64 → ℝ)

/-- The log decays before position `m`, summed. -/
def tot (m : ℕ) : ℝ := ∑ s ∈ Finset.range m, A s

/-- The log decays of the `p + 1` positions from `T`, summed. -/
def loc (T p : ℕ) : ℝ := ∑ s ∈ Finset.range (p + 1), A (T + s)

/-- The state before position `T`. -/
def state (T : ℕ) (n : Fin 64) : ℝ := ∑ s ∈ Finset.range T, B s n * (X s * Real.exp (tot A T - tot A (s + 1)))

theorem loc_eq (T p : ℕ) : loc A T p = tot A (T + p + 1) - tot A T := by
  unfold loc tot
  rw [add_assoc, Finset.sum_range_add A T (p + 1)]; ring

theorem tot_anti (hA : ∀ s, A s ≤ 0) {a b : ℕ} (h : a ≤ b) : tot A b ≤ tot A a := by
  unfold tot
  obtain ⟨k, rfl⟩ := Nat.exists_eq_add_of_le h
  rw [Finset.sum_range_add]
  have : ∑ s ∈ Finset.range k, A (a + s) ≤ 0 := Finset.sum_nonpos fun s _ => hA _
  linarith

/-- One tile takes the state before it to the state after it. -/
theorem state_step (T : ℕ) (n : Fin 64) :
    Real.exp (loc A T 127) * state A X B T n
      + ∑ q ∈ Finset.range 128, B (T + q) n * (X (T + q) * Real.exp (loc A T 127 - loc A T q)) = state A X B (T + 128) n := by
  unfold state
  rw [Finset.sum_range_add, Finset.mul_sum]
  congr 1
  · refine Finset.sum_congr rfl fun s _ => ?_
    rw [loc_eq, show tot A (T + 128) - tot A (s + 1) = (tot A (T + 127 + 1) - tot A T) + (tot A T - tot A (s + 1)) by
      rw [show T + 127 + 1 = T + 128 by omega]; ring, Real.exp_add]
    ring
  · refine Finset.sum_congr rfl fun q _ => ?_
    rw [loc_eq, loc_eq]
    congr 3
    rw [show T + 127 + 1 = T + 128 by omega]; ring

/-- A tile's rows against the state before it and the tile's own positions give the whole scan. -/
theorem scan_tile (hA : ∀ s, A s ≤ 0) (T p L : ℕ) (hp : p < 128) (hL : T + 128 ≤ L) :
    (∑ q ∈ Finset.range 128, (if q ≤ p then ∑ n, C (T + p) n * B (T + q) n else 0)
        * Real.exp (min (loc A T p - loc A T q) 0) * X (T + q))
      + Real.exp (loc A T p) * ∑ n, C (T + p) n * state A X B T n
    = ∑ s ∈ Finset.range L, X s * ((∑ n, C (T + p) n * B s n)
        * (if s ≤ T + p then Real.exp (tot A (T + p + 1) - tot A (s + 1)) else 0)) := by
  obtain ⟨R, rfl⟩ := Nat.exists_eq_add_of_le hL
  rw [Finset.sum_range_add, Finset.sum_range_add]
  have hz : ∑ x ∈ Finset.range R, X (T + 128 + x) * ((∑ n, C (T + p) n * B (T + 128 + x) n)
        * (if T + 128 + x ≤ T + p then Real.exp (tot A (T + p + 1) - tot A (T + 128 + x + 1)) else 0)) = 0 := by
    refine Finset.sum_eq_zero fun s _ => ?_
    rw [if_neg (by omega)]; ring
  rw [hz, add_zero, add_comm]
  congr 1
  · unfold state
    simp only [Finset.mul_sum]
    rw [Finset.sum_comm]
    refine Finset.sum_congr rfl fun s hs => ?_
    have hs' := Finset.mem_range.1 hs
    rw [if_pos (by omega), loc_eq, Finset.sum_mul, Finset.mul_sum]
    refine Finset.sum_congr rfl fun n _ => ?_
    rw [show tot A (T + p + 1) - tot A (s + 1) = (tot A (T + p + 1) - tot A T) + (tot A T - tot A (s + 1)) by ring, Real.exp_add]
    ring
  · refine Finset.sum_congr rfl fun q _ => ?_
    by_cases h : q ≤ p
    · rw [if_pos h, if_pos (by omega), loc_eq, loc_eq]
      have : tot A (T + p + 1) ≤ tot A (T + q + 1) := tot_anti A hA (by omega)
      rw [min_eq_left (by linarith)]
      rw [show tot A (T + p + 1) - tot A T - (tot A (T + q + 1) - tot A T) = tot A (T + p + 1) - tot A (T + q + 1) by ring]
      ring
    · rw [if_neg h, if_neg (by omega)]; ring

end Cert.Scan
-- ==== Proof.Core.lean ====
module

public import proofs.«01_k».proof.Proof.Scan

@[expose] public section

noncomputable section

/-! # The layer's scan by tiles, over the extended reals

Where the weights named here are real numbers, the step sizes and the convolved channels of a layer are real, whatever the
layer's input is; so the tile-by-tile computation gives the layer's scan. A decay parameter may be infinite: its head's scan
is then zero both ways. -/

namespace Cert.Spec

open Idealize.ShloMosaic
open scoped BigOperators

/-- An extended real that is a real number. -/
def Re (v : EReal) : Prop := ∃ r : ℝ, v = (r : EReal)

theorem Re.coe (r : ℝ) : Re (r : EReal) := ⟨r, rfl⟩

theorem Re.zero : Re 0 := ⟨0, rfl⟩

theorem Re.add {a b : EReal} (ha : Re a) (hb : Re b) : Re (a + b) := by
  obtain ⟨r, rfl⟩ := ha; obtain ⟨s, rfl⟩ := hb; exact ⟨r + s, (EReal.coe_add r s).symm⟩

theorem Re.mul {a b : EReal} (ha : Re a) (hb : Re b) : Re (a * b) := by
  obtain ⟨r, rfl⟩ := ha; obtain ⟨s, rfl⟩ := hb; exact ⟨r * s, (EReal.coe_mul r s).symm⟩

theorem Re.neg {a : EReal} (ha : Re a) : Re (-a) := by
  obtain ⟨r, rfl⟩ := ha; exact ⟨-r, (EReal.coe_neg r).symm⟩

theorem coe_sum {ι : Type*} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

theorem Re.sum {ι : Type*} (s : Finset ι) {f : ι → EReal} (h : ∀ i, Re (f i)) : Re (∑ i ∈ s, f i) := by
  choose g hg using h
  exact ⟨∑ i ∈ s, g i, by rw [coe_sum]; exact Finset.sum_congr rfl fun i _ => hg i⟩

theorem exp_coe (r : ℝ) : Ideal.exp (r : EReal) = ((Real.exp r : ℝ) : EReal) := rfl

theorem Re.exp {a : EReal} (ha : Re a) : Re (Ideal.exp a) := by
  obtain ⟨r, rfl⟩ := ha; exact ⟨_, exp_coe r⟩

theorem min_coe (r s : ℝ) : min (r : EReal) (s : EReal) = ((min r s : ℝ) : EReal) :=
  (EReal.coe_strictMono.monotone.map_min).symm

theorem max_coe (r s : ℝ) : max (r : EReal) (s : EReal) = ((max r s : ℝ) : EReal) :=
  (EReal.coe_strictMono.monotone.map_max).symm

theorem eps_pos : ∃ r : ℝ, 0 < r ∧ eps = (r : EReal) := by
  unfold eps
  refine ⟨_, ?_, by simp [Ideal.ofBits, Ideal.ieee]; rfl⟩
  positivity

theorem dim_pos : ∃ r : ℝ, 0 < r ∧ Ideal.ofBits .f32 0x44800000#32 = (r : EReal) := by
  refine ⟨_, ?_, by simp [Ideal.ofBits, Ideal.ieee]; rfl⟩
  positivity

theorem sq_nonneg (v : EReal) : 0 ≤ v * v := by
  induction v using EReal.rec with
  | bot => simp
  | top => simp
  | coe r => rw [← EReal.coe_mul]; exact EReal.coe_nonneg.2 (mul_self_nonneg r)

/-- A row over its root mean square is real, whatever the row. -/
theorem norm_re {v rw : Fin 1024 → EReal} (hw : ∀ k, Re (rw k)) (k : Fin 1024) :
    Re (norm v (Ideal.ofBits .f32 0x44800000#32) rw k) := by
  obtain ⟨d, hd, hde⟩ := dim_pos
  obtain ⟨e, he, hee⟩ := eps_pos
  unfold norm
  refine Re.mul ?_ (hw k)
  rw [hde, hee]
  have hdiv : ∀ x : EReal, Ideal.div x (d : EReal) = x * ((d⁻¹ : ℝ) : EReal) := fun x => by
    unfold Ideal.div
    rw [if_neg (by simpa using hd.ne'), EReal.coe_inv]
  rw [hdiv]
  have hd' : 0 < d⁻¹ := inv_pos.2 hd
  have hle : v k * v k ≤ ∑ j, v j * v j := Finset.single_le_sum (fun j _ => sq_nonneg (v j)) (Finset.mem_univ k)
  generalize ∑ j, v j * v j = S at *
  have h0 : 0 ≤ S := le_trans (sq_nonneg (v k)) hle
  induction S using EReal.rec with
  | bot => simp at h0
  | top =>
      rw [EReal.top_mul_coe_of_pos hd', EReal.top_add_coe]
      exact ⟨0, by show v k * 0 = _; simp⟩
  | coe S =>
      have hS : 0 ≤ S := EReal.coe_nonneg.1 h0
      have hv : Re (v k) := by
        generalize v k = a at hle
        induction a using EReal.rec with
        | bot => simp at hle
        | top => simp at hle
        | coe r => exact ⟨r, rfl⟩
      refine hv.mul ?_
      rw [← EReal.coe_mul, ← EReal.coe_add]
      have hp : 0 < S * d⁻¹ + e := by positivity
      refine ⟨(Real.sqrt (S * d⁻¹ + e))⁻¹, ?_⟩
      show (if S * d⁻¹ + e < 0 then ⊥ else if S * d⁻¹ + e = 0 then ⊤ else _) = _
      rw [if_neg (not_lt.2 hp.le), if_neg hp.ne']

/-- `log (1 + exp v)` of a real is a positive real. -/
theorem sp_re {v : EReal} (hv : Re v) : ∃ r : ℝ, 0 < r ∧ sp v = (r : EReal) := by
  obtain ⟨r, rfl⟩ := hv
  unfold sp
  rw [← EReal.coe_neg, max_coe, ← EReal.coe_neg, exp_coe, show (0 : EReal) = ((0 : ℝ) : EReal) from rfl, max_coe]
  have he := Real.exp_pos (-(max r (-r)))
  have hl : Ideal.log1p ((Real.exp (-(max r (-r))) : ℝ) : EReal) = ((Real.log (1 + Real.exp (-(max r (-r)))) : ℝ) : EReal) := by
    show Ideal.log (((1 : ℝ) : EReal) + _) = _
    rw [← EReal.coe_add]
    show (if _ then _ else _) = _
    rw [if_neg (by linarith)]
  rw [hl, ← EReal.coe_add]
  exact ⟨_, add_pos_of_nonneg_of_pos (le_max_right _ _) (Real.log_pos (by linarith)), rfl⟩

theorem act_re {v : EReal} (hv : Re v) : Re (act v) := by
  obtain ⟨r, rfl⟩ := hv
  unfold act
  refine (Re.coe r).mul ?_
  unfold Ideal.logistic
  rw [← EReal.coe_neg, exp_coe, show (1 : EReal) = ((1 : ℝ) : EReal) from rfl, ← EReal.coe_add]
  have he := Real.exp_pos (-r)
  unfold Ideal.div
  rw [if_neg (EReal.coe_ne_zero.2 (by positivity)), ← EReal.coe_inv, ← EReal.coe_mul]
  exact Re.coe _

/-- The weights that must be real numbers: those that reach the step sizes and the convolved channels. -/
structure Wt.Real (w : Wt) : Prop where
  iw : ∀ e k, Re (w.iw e k)
  cw : ∀ j k, Re (w.cw j k)
  cb : ∀ j, Re (w.cb j)
  dtb : ∀ h, Re (w.dtb h)
  rw : ∀ k, Re (w.rw k)

variable {w : Wt} (hw : w.Real) (x : ℕ → Fin 1024 → EReal)

include hw

theorem zx_re (t : ℕ) (e : Fin 4256) : Re (zx w x t e) :=
  Re.sum _ fun k => (norm_re hw.rw k).mul (hw.iw e k)

theorem sh_re (k t : ℕ) (j : Fin 2176) : Re (sh w x k t j) := by
  unfold sh
  split
  · exact zx_re hw x _ _
  · exact Re.zero

theorem xbc_re (t : ℕ) (j : Fin 2176) : Re (xbc w x t j) := by
  unfold xbc conv
  exact act_re (((((hw.cb j).add ((sh_re hw x 0 t j).mul (hw.cw j 0))).add ((sh_re hw x 1 t j).mul (hw.cw j 1))).add
    ((sh_re hw x 2 t j).mul (hw.cw j 2))).add ((sh_re hw x 3 t j).mul (hw.cw j 3)))

theorem dt_re (t : ℕ) (h : Fin 32) : ∃ r : ℝ, 0 < r ∧ dt w x t h = (r : EReal) :=
  sp_re ((zx_re hw x _ _).add (hw.dtb h))

theorem dA_re (t : ℕ) (h : Fin 32) (hal : w.al h ≠ ⊤) : ∃ r : ℝ, r ≤ 0 ∧ dA w x t h = (r : EReal) := by
  obtain ⟨r, hr, e⟩ := dt_re hw x t h
  obtain ⟨a, ha0, ha⟩ : ∃ a : ℝ, 0 ≤ a ∧ Ideal.exp (w.al h) = (a : EReal) := by
    generalize w.al h = v at hal
    induction v using EReal.rec with
    | bot => exact ⟨0, le_refl _, rfl⟩
    | top => exact absurd rfl hal
    | coe a => exact ⟨_, (_root_.Real.exp_pos a).le, exp_coe a⟩
  refine ⟨r * -a, mul_nonpos_of_nonneg_of_nonpos hr.le (neg_nonpos.2 ha0), ?_⟩
  unfold dA; rw [e, ha, EReal.coe_mul, EReal.coe_neg]

/-- A head whose decay parameter is infinite forgets everything at once. -/
theorem dA_bot (t : ℕ) {h : Fin 32} (hal : w.al h = ⊤) : dA w x t h = ⊥ := by
  obtain ⟨r, hr, e⟩ := dt_re hw x t h
  unfold dA
  rw [e, hal]
  exact EReal.coe_mul_bot_of_pos hr

omit hw in
/-- A sum of infinite log decays, of one at least. -/
theorem sum_bot {f : ℕ → EReal} (hf : ∀ s, f s = ⊥) (n : ℕ) : ∑ s ∈ Finset.range (n + 1), f s = ⊥ := by
  rw [Finset.sum_range_succ, hf n, EReal.add_bot]

theorem xd_re (t : ℕ) (e : Fin 2048) : Re (xd w x t e) := by
  obtain ⟨r, _, h⟩ := dt_re hw x t (hd e)
  exact (xbc_re hw x t _).mul ⟨r, h⟩

omit hw in
theorem exp_bot : Ideal.exp (⊥ : EReal) = 0 := rfl

omit hw in
/-- The state before position `T`. -/
def state (w : Wt) (x : ℕ → Fin 1024 → EReal) (T : ℕ) (n : Fin 64) (e : Fin 2048) : EReal :=
  ∑ s ∈ Finset.range T, bm w x s n * (xd w x s e *
    Ideal.exp (∑ r ∈ Finset.range T, dA w x r (hd e) - ∑ r ∈ Finset.range (s + 1), dA w x r (hd e)))

/-- With an infinite decay parameter the state is zero. -/
theorem state_bot (T : ℕ) (n : Fin 64) {e : Fin 2048} (hal : w.al (hd e) = ⊤) : state w x T n e = 0 := by
  refine Finset.sum_eq_zero fun s hs => ?_
  obtain ⟨k, rfl⟩ : ∃ k, T = k + 1 := ⟨T - 1, by have := Finset.mem_range.1 hs; omega⟩
  rw [sum_bot (fun r => dA_bot hw x r hal), EReal.bot_sub, exp_bot, mul_zero, mul_zero]

theorem lc_bot (T p : ℕ) {e : Fin 2048} (hal : w.al (hd e) = ⊤) : lc w x T p (hd e) = ⊥ :=
  sum_bot (fun r => dA_bot hw x (T + r) hal) p

/-- A tile takes the state before it to the state after it. -/
theorem tileSt_state (T : ℕ) (n : Fin 64) (e : Fin 2048) :
    tileSt w x T (state w x T) n e = state w x (T + 128) n e := by
  by_cases hal : w.al (hd e) = ⊤
  · rw [state_bot hw x _ _ hal]
    unfold tileSt
    rw [lc_bot hw x _ _ hal, exp_bot, zero_mul, zero_add]
    refine Finset.sum_eq_zero fun q _ => ?_
    rw [EReal.bot_sub, exp_bot, mul_zero, mul_zero]
  choose A hA0 hA using fun t => dA_re hw x t (hd e) hal
  choose X hX using fun t => xd_re hw x t e
  choose B hB using fun t n => xbc_re hw x t ⟨2048 + (n : Fin 64).val, by omega⟩
  have hB' : ∀ t n, bm w x t n = ((B t n : ℝ) : EReal) := hB
  have key := congrArg (fun r : ℝ => (r : EReal)) (Scan.state_step A X B T n)
  unfold tileSt
  rw [Finset.sum_range] at key
  simp only [state, lc, hA, hX, hB', ← coe_sum, ← EReal.coe_sub, exp_coe, ← EReal.coe_mul, ← EReal.coe_add]
  exact key

/-- A tile's rows, from the state before it, are the scan's. -/
theorem tileY_state (T p : ℕ) (hp : p < 128) (hT : T + 128 ≤ 2048) (e : Fin 2048) :
    tileY w x T (state w x T) p e = y w x (T + p) e := by
  by_cases hal : w.al (hd e) = ⊤
  · unfold tileY y
    rw [lc_bot hw x _ _ hal, exp_bot, zero_mul, add_zero, Finset.sum_eq_zero, Finset.sum_eq_zero]
    · intro s _
      have h : dec w x (T + p) s.val (hd e) = 0 := by
        unfold dec cs
        rw [sum_bot (fun r => dA_bot hw x r hal), EReal.bot_sub, exp_bot, ite_self]
      rw [h, mul_zero, mul_zero]
    · intro q _
      rw [EReal.bot_sub, min_eq_left bot_le, exp_bot, mul_zero, zero_mul]
  choose A hA0 hA using fun t => dA_re hw x t (hd e) hal
  choose X hX using fun t => xd_re hw x t e
  choose B hB using fun t n => xbc_re hw x t ⟨2048 + (n : Fin 64).val, by omega⟩
  have hB' : ∀ t n, bm w x t n = ((B t n : ℝ) : EReal) := hB
  choose C hC using fun t n => xbc_re hw x t ⟨2112 + (n : Fin 64).val, by omega⟩
  have hC' : ∀ t n, cm w x t n = ((C t n : ℝ) : EReal) := hC
  have key := congrArg (fun r : ℝ => (r : EReal)) (Scan.scan_tile A X B C hA0 T p 2048 hp hT)
  rw [Finset.sum_range, Finset.sum_range] at key
  have ite_coe : ∀ (c : Prop) [Decidable c] (r : ℝ), (if c then (r : EReal) else 0) = ((if c then r else 0 : ℝ) : EReal) := by
    intro c _ r; split <;> rfl
  have z : (0 : EReal) = ((0 : ℝ) : EReal) := rfl
  unfold tileY y
  simp only [dec, cs, state, lc, hA, hX, hB', hC', ← coe_sum, ← EReal.coe_sub, exp_coe, ← EReal.coe_mul, ite_coe, ← EReal.coe_add]
  simp only [z, min_coe, exp_coe, ← EReal.coe_mul, ← coe_sum, ← EReal.coe_add]
  exact key

end Cert.Spec
-- ==== Proof.KernelIdeal.Sweep.lean ====
module

public import proofs.«01_k».proof.Proof.KernelIdeal.Blocks
public import proofs.«01_k».proof.Proof.Core

@[expose] public section

set_option maxRecDepth 16384

noncomputable section

/-! # The scratches between the grid points

Between two points the residual buffer holds the sequence after a number of layers, row by row, and the carried state
and rows are those of the layer at work. -/

namespace Cert.KernelIdeal

open Idealize.ShloMosaic Idealize.ShloMosaic.TcCoe Idealize.ShloMosaic.Tactic Cert.Spec Cert.KernelIdeal.Gen
open Idealize.SL.Sem

variable (m : (ℓ : Loc nD τ sig) → Buf (Elt Ideal) ℓ) (c : Dev nD)

/-- The sequence of batch `b` after `n` layers. -/
abbrev aft (b n : ℕ) : ℕ → Fin 1024 → EReal :=
  stack (wts m c) (inp m c ⟨b % 2, Nat.mod_lt _ (by decide)⟩) n

/-- The weights of layer `i`. -/
abbrev wgt (i : ℕ) : Wt := wts m c ⟨i % 4, Nat.mod_lt _ (by decide)⟩

/-- The scratches before point `n`, when the sweep of batch `b` and layer `i` has done `k` chunks. -/
structure Inv (n b i k : ℕ) : Prop where
  r : ∀ (r : Fin 2048) (d : Fin 1024), (i ≠ 0 ∨ r.val < 256 * k) →
    (scr m c n).r (ix2 r d) = aft m c b (if r.val < 256 * k then i + 1 else i) r.val d
  s : k ≠ 0 → ∀ (q : Fin 64) (e : Fin 2048), (scr m c n).s (ix2 q e) = state (wgt m c i) (aft m c b i) (256 * k) q e
  p : k ≠ 0 → ∀ (q : Fin 8) (j : Fin 2176), (scr m c n).p (ix2 q j) = raw (wgt m c i) (aft m c b i) (256 * k + q.val - 8) j

variable {m c}

omit m c in
theorem pay6_val (x : Vec Ideal S1x256x1024 .f32) (p : Fin 256) (d : Fin 1024) : k0_pay6 (F := Ideal) x (ix2 p d) = x (ix3 0 p d) := by
  pointwise [k0_pay6]

omit m c in
theorem pay5_val (q : Fin 8) (j : Fin 2176) : k0_pay5 (F := Ideal) (ix2 q j) = 0 := by
  pointwise [k0_pay5]

omit m c in
theorem pay4_val (q : Fin 64) (e : Fin 2048) : k0_pay4 (F := Ideal) (ix2 q e) = 0 := by
  pointwise [k0_pay4]

/-- The rows a point reads. -/
theorem rows_of {b i k : ℕ} (hb : b < 2) (hi : i < 4) (hk : k < 8) (t : Fin cfg0.N) (ht : t.val = 32 * b + 8 * i + k)
    (I : Inv m c t.val b i k) (p : Fin 256) (d : Fin 1024) : (src m c t).r (ix2 p d) = aft m c b i (256 * k + p.val) d := by
  have c2 := coord2 t
  have c1 := coord1 t
  show VecWindow.window (res0 (grid0.coords t) (iblk m c 0 t) (scr m c t.val).r) (k0_off2 (grid0.coords t)) S256x1024.size (k0_off2_inb _) (ix2 p d) = _
  unfold res0
  by_cases h0 : k0_cond2 (grid0.coords t) = 1#1
  · rw [if_pos h0]
    have hi0 : i = 0 := by have := (cond2_iff _).mp h0; omega
    subst hi0
    refine (congrFun (VecWindow.window_put_same (s := S2048x1024) _ (k0_off2 _) S256x1024.size (k0_off2_inb _) _) _).trans ?_
    refine (pay6_val _ p d).trans ((iblk_0 m c t (by omega) p d).trans ?_)
    have hb' : (⟨t.val / 32 % 2, Nat.mod_lt _ (by decide)⟩ : Fin 2) = ⟨b % 2, Nat.mod_lt _ (by decide)⟩ :=
      Fin.ext (by show t.val / 32 % 2 = b % 2; omega)
    have hk' : 256 * (t.val % 8) + p.val = 256 * k + p.val := by omega
    rw [hb', hk']
    rfl
  · rw [if_neg h0]
    have hi0 : i ≠ 0 := fun h => h0 ((cond2_iff _).mpr (by omega))
    have hlt : 256 * k + p.val < 2048 := by omega
    have := I.r ⟨256 * k + p.val, hlt⟩ d (.inl hi0)
    rw [if_neg (by show ¬ 256 * k + p.val < 256 * k; omega)] at this
    refine Eq.trans ?_ this
    show (scr m c t.val).r _ = _
    congr 1
    funext a; apply Fin.ext
    match a with
    | ⟨0, _⟩ =>
      show k0_off2 (grid0.coords t) 0 + 1 * p.val = 256 * k + p.val
      rw [off2_eq]; show 256 * (grid0.coords t 2).val + 1 * p.val = _; omega
    | ⟨1, _⟩ =>
      show k0_off2 (grid0.coords t) 1 + 1 * d.val = d.val
      rw [off2_eq]; show 0 + 1 * d.val = _; omega

/-- What a point reads. -/
theorem reads_of {b i k : ℕ} (hb : b < 2) (hi : i < 4) (hk : k < 8) (t : Fin cfg0.N) (ht : t.val = 32 * b + 8 * i + k)
    (I : Inv m c t.val b i k) : Reads (src m c t) (wgt m c i) (aft m c b i) (256 * k) := by
  have hl : lay t = ⟨i % 4, Nat.mod_lt _ (by decide)⟩ := Fin.ext (by show t.val / 8 % 4 = i % 4; omega)
  have c2 := coord2 t
  have c1 := coord1 t
  have hw : wgt m c i = wts m c (lay t) := congrArg (wts m c) hl.symm
  rw [hw]
  constructor
  · exact iblk_1 m c t
  · exact iblk_2 m c t
  · exact iblk_3 m c t
  · exact iblk_4 m c t
  · exact iblk_5 m c t
  · exact iblk_6 m c t
  · exact iblk_7 m c t
  · exact iblk_8 m c t
  · exact iblk_9 m c t
  · exact iblk_10 m c t
  · exact rows_of hb hi hk t ht I
  · intro q j
    show (if first (grid0.coords t) then (k0_pay5 (F := Ideal) : Vec Ideal S8x2176 .f32) else (scr m c t.val).p) (ix2 q j) = _
    by_cases hk0 : k = 0
    · rw [if_pos ((first_iff _).mpr (by omega)), if_neg (by omega)]
      exact pay5_val q j
    · rw [if_neg (fun h => hk0 (by have := (first_iff _).mp h; omega)), if_pos (by omega), I.p hk0, hw]

theorem st_of {b i k : ℕ} (hk : k < 8) (t : Fin cfg0.N) (ht : t.val = 32 * b + 8 * i + k)
    (I : Inv m c t.val b i k) : (fun n e => (src m c t).st (ix2 n e)) = state (wgt m c i) (aft m c b i) (256 * k) := by
  have c2 := coord2 t
  funext q e
  show (if first (grid0.coords t) then (k0_pay4 (F := Ideal) : Vec Ideal S64x2048 .f32) else (scr m c t.val).s) (ix2 q e) = _
  by_cases hk0 : k = 0
  · rw [if_pos ((first_iff _).mpr (by omega))]
    subst hk0
    unfold state
    simp only [Nat.mul_zero, Finset.range_zero, Finset.sum_empty]
    exact pay4_val q e
  · rw [if_neg (fun h => hk0 (by have := (first_iff _).mp h; omega)), I.s hk0]

theorem wgt_real (hw : ∀ i, (wts m c i).Real) (i : ℕ) : (wgt m c i).Real := hw _

/-- A point's block is the next layer's rows. -/
theorem blk_of (hw : ∀ i, (wts m c i).Real) {b i k : ℕ} (hb : b < 2) (hi : i < 4) (hk : k < 8) (t : Fin cfg0.N) (ht : t.val = 32 * b + 8 * i + k)
    (I : Inv m c t.val b i k) (p : Fin 256) (d : Fin 1024) :
    (src m c t).blk (ix2 p d) = aft m c b (i + 1) (256 * k + p.val) d := by
  refine Eq.trans ?_ (if_pos (show 256 * k + p.val < 2048 by omega)).symm
  have hR := reads_of hb hi hk t ht I
  have hs := st_of hk t ht I
  have h1 : (fun n e => (src m c t).st1 (ix2 n e)) = state (wgt m c i) (aft m c b i) (256 * k + 128) := by
    funext n e
    rw [st1_val hR, hs]
    exact tileSt_state (hw _) _ _ _ _
  by_cases hp : p.val < 128
  · refine (blk_lo (src m c t) ⟨p.val, hp⟩ d).trans ?_
    refine (lo_val hR ⟨p.val, hp⟩ d fun e => ?_).trans rfl
    rw [hs]
    exact tileY_state (hw _) _ _ _ hp (by omega) _
  · have e : p = ⟨128 + (⟨p.val - 128, by omega⟩ : Fin 128).val, by show 128 + (p.val - 128) < 256; omega⟩ :=
      Fin.ext (by show p.val = 128 + (p.val - 128); omega)
    rw [e]
    refine (blk_hi (src m c t) ⟨p.val - 128, by omega⟩ d).trans ?_
    refine (hi_val hR ⟨p.val - 128, by omega⟩ d fun e => ?_).trans ?_
    · rw [h1]
      exact tileY_state (hw _) _ _ _ (by show p.val - 128 < 128; omega) (by omega) _
    · rw [add_assoc]

/-- One point. -/
theorem inv_step (hw : ∀ i, (wts m c i).Real) {b i k : ℕ} (hb : b < 2) (hi : i < 4) (hk : k < 8) (t : Fin cfg0.N) (ht : t.val = 32 * b + 8 * i + k)
    (I : Inv m c t.val b i k) : Inv m c (t.val + 1) b i (k + 1) := by
  have hR := reads_of hb hi hk t ht I
  have hs := st_of hk t ht I
  have c2 := coord2 t
  have hc : (grid0.coords t 2).val = k := by omega
  constructor
  · intro r d hr
    rw [scr_succ]
    show res1 (grid0.coords t) (src m c t) (res0 (grid0.coords t) (iblk m c 0 t) (scr m c t.val).r) (ix2 r d) = _
    by_cases hin : 256 * k ≤ r.val ∧ r.val < 256 * k + 256
    · rw [if_pos (by omega)]
      refine (res1_in _ _ _ (ix2 r d) ⟨r.val - 256 * k, by omega⟩ (by rw [hc]; show r.val = _ + (r.val - _); omega)).trans ?_
      refine (blk_of hw hb hi hk t ht I ⟨r.val - 256 * k, by omega⟩ d).trans ?_
      congr 1
      show 256 * k + (r.val - 256 * k) = r.val; omega
    · refine (res1_out _ _ _ _ (ix2 r d) (by rw [hc]; show r.val < _ ∨ _ ≤ r.val; omega)).trans ?_
      rw [I.r r d (by omega)]
      congr 1
      by_cases h : r.val < 256 * k
      · rw [if_pos h, if_pos (by omega)]
      · rw [if_neg h, if_neg (by omega)]
  · intro _ q e
    rw [scr_succ]
    show (src m c t).st2 (ix2 q e) = _
    rw [st2_val hR]
    have h1 : (fun n e => (src m c t).st1 (ix2 n e)) = state (wgt m c i) (aft m c b i) (256 * k + 128) := by
      funext n e
      rw [st1_val hR, hs]
      exact tileSt_state (hw _) _ _ _ _
    rw [h1]
    exact tileSt_state (hw _) _ _ _ _
  · intro _ q j
    rw [scr_succ]
    show (src m c t).tl' (ix2 q j) = _
    rw [tl'_val hR]
    congr 1
    omega

/-- Every point of the grid. -/
theorem inv (hw : ∀ i, (wts m c i).Real) : ∀ n : ℕ, n ≤ 64 → Inv m c n (n / 32) (n / 8 % 4) (n % 8)
  | 0, _ => ⟨fun r d h => absurd h (by simp), fun h => absurd rfl h, fun h => absurd rfl h⟩
  | n + 1, hn => by
    have I := inv_step hw (b := n / 32) (i := n / 8 % 4) (k := n % 8) (by omega) (by omega) (by omega) ⟨n, hn⟩ (by show n = _; omega) (inv hw n (by omega))
    by_cases h : n % 8 = 7
    · have e : (n + 1) % 8 = 0 := by omega
      rw [e]
      refine ⟨fun r d hr => ?_, fun h => absurd rfl h, fun h => absurd rfl h⟩
      have hr' : (n + 1) / 8 % 4 ≠ 0 := by omega
      have e1 : (n + 1) / 32 = n / 32 := by omega
      have e2 : (n + 1) / 8 % 4 = n / 8 % 4 + 1 := by omega
      have := I.r r d (.inr (by omega))
      rw [if_pos (by omega)] at this
      rw [if_neg (by omega), e1, e2]
      exact this
    · have e1 : (n + 1) / 32 = n / 32 := by omega
      have e2 : (n + 1) / 8 % 4 = n / 8 % 4 := by omega
      have e3 : (n + 1) % 8 = n % 8 + 1 := by omega
      rw [e1, e2, e3]
      exact I

end Cert.KernelIdeal
-- ==== Proof.KernelIdeal.Out.lean ====
module

public import proofs.«01_k».proof.Proof.KernelIdeal.Sweep

@[expose] public section

set_option maxRecDepth 16384

noncomputable section

/-! # The output array

Each block of the output is written by every layer; the last layer's write stands. -/

namespace Cert.KernelIdeal

open Idealize.ShloMosaic Idealize.ShloMosaic.TcCoe Idealize.ShloMosaic.Tactic Cert.Spec Cert.KernelIdeal.Gen
open Idealize.SL.Sem

variable {m : (ℓ : Loc nD τ sig) → Buf (Elt Ideal) ℓ} {c : Dev nD}

/-- Where an element of the block of point `t` lies in the output. -/
theorem emb_11 (t : Fin cfg0.N) (p : Fin 256) (d : Fin 1024) :
    ((cfg0.win 11).blk t).view.emb (ix3 0 p d)
      = ix3 (⟨t.val / 32 % 2, Nat.mod_lt _ (by decide)⟩ : Fin 2) (⟨256 * (t.val % 8) + p.val, by omega⟩ : Fin 2048) d := by
  obtain ⟨e0, e1, e2⟩ := (idx_all t).2.2.2.2.2.2.2.2.2.2.2
  funext a; apply Fin.ext
  match a with
  | ⟨0, _⟩ => show win0_11.index t 0 * 1 + 1 * 0 = t.val / 32 % 2; omega
  | ⟨1, _⟩ => show win0_11.index t 1 * 256 + 1 * p.val = 256 * (t.val % 8) + p.val; omega
  | ⟨2, _⟩ => show win0_11.index t 2 * 1024 + 1 * d.val = d.val; omega

/-- Once the last layer has passed its chunk, an element of the output holds the fourth layer's value. -/
theorem out_at (hw : ∀ i, (wts m c i).Real) (b : Fin 2) (r : Fin 2048) (d : Fin 1024) :
    ∀ n : ℕ, n ≤ 64 → 32 * b.val + 24 + r.val / 256 < n →
      (dats m 0 c).arrAt 11 n (ix3 b r d) = aft m c b.val 4 r.val d
  | 0, _, h => absurd h (Nat.not_lt_zero _)
  | n + 1, hn, h => by
    have hN : n < cfg0.N := by show n < 64; omega
    rw [Pipeline.Dat.arrAt_succ_apply, dif_pos hN, if_pos (flush0_11 ⟨n, hN⟩)]
    by_cases hm : n / 32 % 2 = b.val ∧ n % 8 = r.val / 256
    · have hn' : n = 32 * b.val + 24 + r.val / 256 := by omega
      have hi : ix3 b r d = ((cfg0.win 11).blk ⟨n, hN⟩).view.emb (ix3 0 (⟨r.val - 256 * (r.val / 256), by omega⟩ : Fin 256) d) := by
        rw [emb_11]
        congr 1
        · exact Fin.ext (by show b.val = n / 32 % 2; omega)
        · exact Fin.ext (by show r.val = 256 * (n % 8) + (r.val - 256 * (r.val / 256)); omega)
      rw [hi, View.write_emb_of_mem _ _ (Finset.mem_univ _)]
      show (dats m 0 c).after 11 ⟨n, hN⟩ _ = _
      rw [after_11]
      have I := inv (c := c) hw n (by omega)
      have hb3 : n / 8 % 4 = 3 := by omega
      have hbb : n / 32 = b.val := by omega
      have hkk : n % 8 = r.val / 256 := by omega
      rw [hb3, hbb, hkk] at I
      refine (blk_of hw b.isLt (by decide) (by omega) ⟨n, hN⟩ (by show n = _; omega) I ⟨r.val - 256 * (r.val / 256), by omega⟩ d).trans ?_
      congr 1
      show 256 * (r.val / 256) + (r.val - 256 * (r.val / 256)) = r.val; omega
    · have ne : n ≠ 32 * b.val + 24 + r.val / 256 := fun e => hm (by omega)
      rw [View.write_of_not_mem]
      · exact out_at hw b r d n (by omega) (by omega)
      · intro hmem
        rw [View.setOn_univ] at hmem
        obtain ⟨y, hy⟩ := View.exists_emb_of_mem_set _ hmem
        have hy0 : y = ix3 0 (y 1) (y 2) := by
          funext a
          match a with
          | ⟨0, _⟩ => exact Subsingleton.elim (α := Fin 1) _ _
          | ⟨1, _⟩ => rfl
          | ⟨2, _⟩ => rfl
        have e := hy.symm.trans ((congrArg _ hy0).trans (emb_11 ⟨n, hN⟩ (y 1) (y 2)))
        have e0 := congrArg Fin.val (congrFun e 0)
        have e1 := congrArg Fin.val (congrFun e 1)
        have e0' : b.val = n / 32 % 2 := e0
        have e1' : r.val = 256 * (n % 8) + (y 1).val := e1
        have hy1 : (y 1).val < 256 := (y 1).isLt
        exact hm (by omega)

/-- The whole run: the output holds the fourth layer's values. -/
theorem run_out (hw : ∀ c i, (wts m c i).Real) (ρ : Dev nD → PrngReg) :
    θ_run defs (onTc (τ := τ) (main (F := Ideal))) ⟨m, fun _ => 0, ρ⟩ (fun r => ∀ c : Dev nD, ∀ (b : Fin 2) (t : Fin 2048) (d : Fin 1024),
      r.2.mem ((c.tc : Thread nD τ).loc main_v0) (ix3 b t d) = aft m c b.val 4 t.val d) :=
  (θ_run defs _ _).mono (fun r h c b t d => by
    have h11 := (h.1 c).1 11
    refine (congrFun h11 (ix3 b t d)).trans ?_
    exact out_at (hw c) b t d 64 (le_refl _) (by omega)) (run_main m ρ)

end Cert.KernelIdeal
-- ==== Proof.ReferenceIdeal.Layer.lean ====
module

public import proofs.«01_k».proof.Proof.Gen.ReferenceIdeal
public import proofs.«01_k».proof.Proof.Spec

@[expose] public section

set_option maxRecDepth 16384

noncomputable section

/-! # One layer of the reference

The reference repeats the same operations for each layer. Here they stand once, as functions of the layer's input and
of its own weights. -/

namespace Cert.ReferenceIdeal

open Idealize.ShloMosaic Cert.ReferenceIdeal.Gen

/-- The projection of the normalised sequence. -/
def rP (X : FVec Ideal S2x2048x1024 .f32) (rw : FVec Ideal S1024 .f32) (iw : FVec Ideal S4256x1024 .f32) : FVec Ideal S2x2048x4256 .f32 :=
  Host.dotGeneral dot_S2x2048x1024_S4256x1024_S2x2048x4256_2_1_01_0_n_n none (mulf (mulf X (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf X X) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x3727C5AC#32)))))) (broadcastInDim S2x2048x1024 ![0, 1, 2] bcast_S1x1x1024_S2x2048x1024_0_1_2 (broadcastInDim S1x1x1024 ![2] bcast_S1024_S1x1x1024_2 rw))) iw

/-- The gate channels. -/
def rZ (P : FVec Ideal S2x2048x4256 .f32) : FVec Ideal S2x2048x2048 .f32 :=
  extractStridedSlice S2x2048x2048 ![0, 0, 0] P slices_S2x2048x4256_S2x2048x2048_0_0_0

/-- The channels of the convolution with three zero rows before. -/
def rPad (P : FVec Ideal S2x2048x4256 .f32) : FVec Ideal S2x2051x2176 .f32 :=
  pad S2x2051x2176 ![0, 3, 0] ![0, 0, 0] ![0, 0, 0] (extractStridedSlice S2x2048x2176 ![0, 0, 2048] P slices_S2x2048x4256_S2x2048x2176_0_0_2048) (sitofp .f32 (constantI S_ 32 0#32)) pads_S2x2048x2176_S2x2051x2176_000_300_000 h_S_

/-- The convolution: the bias and four shifted products. -/
def rConv (A : FVec Ideal S2x2051x2176 .f32) (tp : FVec Ideal S2176x4 .f32) (cb : FVec Ideal S2176 .f32) : FVec Ideal S2x2048x2176 .f32 :=
  addf (addf (addf (addf (broadcastInDim S2x2048x2176 ![0, 1, 2] bcast_S1x1x2176_S2x2048x2176_0_1_2 (broadcastInDim S1x1x2176 ![2] bcast_S2176_S1x1x2176_2 cb)) (mulf (extractStridedSlice S2x2048x2176 ![0, 0, 0] A slices_S2x2051x2176_S2x2048x2176_0_0_0) (broadcastInDim S2x2048x2176 ![0, 1, 2] bcast_S1x1x2176_S2x2048x2176_0_1_2 (broadcastInDim S1x1x2176 ![2] bcast_S2176_S1x1x2176_2 (shapeCast _ (extractStridedSlice S2176x1 ![0, 0] tp slices_S2176x4_S2176x1_0_0) shapeCasts_S2176x1_S2176))))) (mulf (extractStridedSlice S2x2048x2176 ![0, 1, 0] A slices_S2x2051x2176_S2x2048x2176_0_1_0) (broadcastInDim S2x2048x2176 ![0, 1, 2] bcast_S1x1x2176_S2x2048x2176_0_1_2 (broadcastInDim S1x1x2176 ![2] bcast_S2176_S1x1x2176_2 (shapeCast _ (extractStridedSlice S2176x1 ![0, 1] tp slices_S2176x4_S2176x1_0_1) shapeCasts_S2176x1_S2176))))) (mulf (extractStridedSlice S2x2048x2176 ![0, 2, 0] A slices_S2x2051x2176_S2x2048x2176_0_2_0) (broadcastInDim S2x2048x2176 ![0, 1, 2] bcast_S1x1x2176_S2x2048x2176_0_1_2 (broadcastInDim S1x1x2176 ![2] bcast_S2176_S1x1x2176_2 (shapeCast _ (extractStridedSlice S2176x1 ![0, 2] tp slices_S2176x4_S2176x1_0_2) shapeCasts_S2176x1_S2176))))) (mulf (extractStridedSlice S2x2048x2176 ![0, 3, 0] A slices_S2x2051x2176_S2x2048x2176_0_3_0) (broadcastInDim S2x2048x2176 ![0, 1, 2] bcast_S1x1x2176_S2x2048x2176_0_1_2 (broadcastInDim S1x1x2176 ![2] bcast_S2176_S1x1x2176_2 (shapeCast _ (extractStridedSlice S2176x1 ![0, 3] tp slices_S2176x4_S2176x1_0_3) shapeCasts_S2176x1_S2176))))

/-- The convolved channels times their sigmoid. -/
def rAct (C : FVec Ideal S2x2048x2176 .f32) : FVec Ideal S2x2048x2176 .f32 :=
  mulf C (Host.divf (broadcastInDim S2x2048x2176 ![] bcast_S_S2x2048x2176 (constant S_ .f32 0x3F800000#32)) (addf (broadcastInDim S2x2048x2176 ![] bcast_S_S2x2048x2176 (constant S_ .f32 0x3F800000#32)) (Host.exp (Host.negf C))))

/-- The step-size channels with their bias. -/
def rPre (P : FVec Ideal S2x2048x4256 .f32) (db : FVec Ideal S32 .f32) : FVec Ideal S2x2048x32 .f32 :=
  addf (extractStridedSlice S2x2048x32 ![0, 0, 4224] P slices_S2x2048x4256_S2x2048x32_0_0_4224) (broadcastInDim S2x2048x32 ![0, 1, 2] bcast_S1x1x32_S2x2048x32_0_1_2 (broadcastInDim S1x1x32 ![2] bcast_S32_S1x1x32_2 db))

/-- The step-size channels less zero. -/
def rSub (D0 : FVec Ideal S2x2048x32 .f32) : FVec Ideal S2x2048x32 .f32 :=
  subf D0 (broadcastInDim S2x2048x32 ![] bcast_S_S2x2048x32 (constant S_ .f32 0x00000000#32))

/-- The step size. -/
def rDt (D0 : FVec Ideal S2x2048x32 .f32) : FVec Ideal S2x2048x32 .f32 :=
  select (cmpf .une (rSub D0) (rSub D0)) (addf D0 (broadcastInDim S2x2048x32 ![] bcast_S_S2x2048x32 (constant S_ .f32 0x00000000#32))) (addf (maximumf D0 (broadcastInDim S2x2048x32 ![] bcast_S_S2x2048x32 (constant S_ .f32 0x00000000#32))) (Host.log1p (Host.exp (Host.negf (Host.absf (rSub D0))))))

/-- The scan's input, by head. -/
def rSplit (B : FVec Ideal S2x2048x2176 .f32) : FVec Ideal S2x2048x32x64 .f32 :=
  shapeCast _ (extractStridedSlice S2x2048x2048 ![0, 0, 0] B slices_S2x2048x2176_S2x2048x2048_0_0_0) shapeCasts_S2x2048x2048_S2x2048x32x64

/-- The running log decay. -/
def rCs (D : FVec Ideal S2x2048x32 .f32) (al : FVec Ideal S32 .f32) : FVec Ideal S2x32x2048 .f32 :=
  Host.reduceWindowAdd ![1, 1, 2048] ![1, 1, 1] ![0, 0, 2047] ![0, 0, 0] (transpose S2x32x2048 [0, 2, 1] (mulf D (broadcastInDim S2x2048x32 ![0, 1, 2] bcast_S1x1x32_S2x2048x32_0_1_2 (broadcastInDim S1x1x32 ![2] bcast_S32_S1x1x32_2 (Host.negf (Host.exp al))))) transposes_S2x2048x32_S2x32x2048_0_2_1) (broadcastInDim S_ ![] bcast_S_S_ (constant S_ .f32 0x00000000#32)) reduceWindows_S2x32x2048_S2x32x2048_w1s1p0_0_w1s1p0_0_w2048s1p2047_0 h_S_

/-- The scan with the skip, gated. -/
def rY (B : FVec Ideal S2x2048x2176 .f32) (D : FVec Ideal S2x2048x32 .f32) (U : FVec Ideal S2x2048x32x64 .f32) (S : FVec Ideal S2x32x2048 .f32) (dd : FVec Ideal S32 .f32) (Z : FVec Ideal S2x2048x2048 .f32) : FVec Ideal S2x2048x2048 .f32 :=
  mulf (shapeCast _ (addf (transpose S2x2048x32x64 [0, 3, 1, 2] (Host.dotGeneral dot_S2x2048x32x64_S2x32x2048x2048_S2x32x64x2048_1_3_3_2_02_01 none (mulf U (broadcastInDim S2x2048x32x64 ![0, 1, 2, 3] bcast_S2x2048x32x1_S2x2048x32x64_0_1_2_3 (broadcastInDim S2x2048x32x1 ![0, 1, 2] bcast_S2x2048x32_S2x2048x32x1_0_1_2 D))) (mulf (broadcastInDim S2x32x2048x2048 ![0, 1, 2, 3] bcast_S2x1x2048x2048_S2x32x2048x2048_0_1_2_3 (broadcastInDim S2x1x2048x2048 ![0, 2, 3] bcast_S2x2048x2048_S2x1x2048x2048_0_2_3 (Host.dotGeneral dot_S2x2048x64_S2x2048x64_S2x2048x2048_2_2_1_1_0_0 none (extractStridedSlice S2x2048x64 ![0, 0, 2112] B slices_S2x2048x2176_S2x2048x64_0_0_2112) (extractStridedSlice S2x2048x64 ![0, 0, 2048] B slices_S2x2048x2176_S2x2048x64_0_0_2048)))) (Host.exp (select (broadcastInDim S2x32x2048x2048 ![2, 3] bcast_S2048x2048_S2x32x2048x2048_2_3 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1)))) (subf (broadcastInDim S2x32x2048x2048 ![0, 1, 2, 3] bcast_S2x32x2048x1_S2x32x2048x2048_0_1_2_3 (broadcastInDim S2x32x2048x1 ![0, 1, 2] bcast_S2x32x2048_S2x32x2048x1_0_1_2 S)) (broadcastInDim S2x32x2048x2048 ![0, 1, 2, 3] bcast_S2x32x1x2048_S2x32x2048x2048_0_1_2_3 (broadcastInDim S2x32x1x2048 ![0, 1, 3] bcast_S2x32x2048_S2x32x1x2048_0_1_3 S))) (broadcastInDim S2x32x2048x2048 ![] bcast_S_S2x32x2048x2048 (id (constant S_ .f32 0xFF800000#32))))))) transposes_S2x32x64x2048_S2x2048x32x64_0_3_1_2) (mulf (broadcastInDim S2x2048x32x64 ![0, 1, 2, 3] bcast_S1x1x32x1_S2x2048x32x64_0_1_2_3 (broadcastInDim S1x1x32x1 ![2] bcast_S32_S1x1x32x1_2 dd)) U)) shapeCasts_S2x2048x32x64_S2x2048x2048) (mulf Z (Host.divf (broadcastInDim S2x2048x2048 ![] bcast_S_S2x2048x2048 (constant S_ .f32 0x3F800000#32)) (addf (broadcastInDim S2x2048x2048 ![] bcast_S_S2x2048x2048 (constant S_ .f32 0x3F800000#32)) (Host.exp (Host.negf Z)))))

/-- The layer with the residual. -/
def rOut (X : FVec Ideal S2x2048x1024 .f32) (Y : FVec Ideal S2x2048x2048 .f32) (gn : FVec Ideal S2048 .f32) (ow : FVec Ideal S1024x2048 .f32) : FVec Ideal S2x2048x1024 .f32 :=
  addf X (Host.dotGeneral dot_S2x2048x2048_S1024x2048_S2x2048x1024_2_1_01_0_n_n none (mulf (mulf Y (broadcastInDim S2x2048x2048 ![0, 1, 2] bcast_S2x2048x1_S2x2048x2048_0_1_2 (Host.rsqrt (addf (Host.divf (broadcastInDim S2x2048x1 ![0, 1] bcast_S2x2048_S2x2048x1_0_1 (Host.reduceAdd (mulf Y Y) (constant S_ .f32 0x00000000#32) reducesTo_S2x2048x2048_S2x2048_d2 h_S_)) (broadcastInDim S2x2048x1 ![] bcast_S_S2x2048x1 (constant S_ .f32 0x45000000#32))) (broadcastInDim S2x2048x1 ![] bcast_S_S2x2048x1 (constant S_ .f32 0x3727C5AC#32)))))) (broadcastInDim S2x2048x2048 ![0, 1, 2] bcast_S1x1x2048_S2x2048x2048_0_1_2 (broadcastInDim S1x1x2048 ![2] bcast_S2048_S1x1x2048_2 gn))) ow)

/-- The layer. -/
def rLayer (X : FVec Ideal S2x2048x1024 .f32) (iw : FVec Ideal S4256x1024 .f32) (tp : FVec Ideal S2176x4 .f32) (cb : FVec Ideal S2176 .f32) (db : FVec Ideal S32 .f32) (al : FVec Ideal S32 .f32) (dd : FVec Ideal S32 .f32) (gn : FVec Ideal S2048 .f32) (ow : FVec Ideal S1024x2048 .f32) (rw : FVec Ideal S1024 .f32) :
    FVec Ideal S2x2048x1024 .f32 :=
  rOut X (rY (rAct (rConv (rPad (rP X rw iw)) tp cb)) (rDt (rPre (rP X rw iw) db)) (rSplit (rAct (rConv (rPad (rP X rw iw)) tp cb)))
    (rCs (rDt (rPre (rP X rw iw) db)) al) dd (rZ (rP X rw iw))) gn ow

end Cert.ReferenceIdeal

end
-- ==== Proof.ReferenceIdeal.Read.lean ====
module

public import proofs.«01_k».proof.Proof.ReferenceIdeal.Layer
public import Idealize.ShloMosaic.Lib.Pointwise
public import Idealize.ShloMosaic.Lib.Tactic
public import Idealize.ShloMosaic.Lib.WordCmp

@[expose] public section

set_option maxRecDepth 16384

noncomputable section

/-! # The reference's layer, read at an index -/

namespace Cert.ReferenceIdeal

open Idealize.ShloMosaic Idealize.ShloMosaic.Tactic Cert.Spec Cert.ReferenceIdeal.Gen
open scoped BigOperators

theorem seq_at (X : FVec Ideal S2x2048x1024 .f32) (b : Fin 2) (t : Fin 2048) (d : Fin 1024) : seq X b t.val d = X (ix3 b t d) :=
  dif_pos t.isLt

variable {w : Wt} {x : Fin 2 → ℕ → Fin 1024 → EReal}

theorem rP_val {X : FVec Ideal S2x2048x1024 .f32} {rw : FVec Ideal S1024 .f32} {iw : FVec Ideal S4256x1024 .f32}
    (hr : ∀ k, rw (ix1 k) = w.rw k) (hi : ∀ e k, iw (ix2 e k) = w.iw e k) (b : Fin 2) (t : Fin 2048) (e : Fin 4256) :
    rP X rw iw (ix3 b t e) = zx w (seq X b) t.val e := by
  have h : zx w (seq X b) t.val e = ∑ k, X (ix3 b t k) * Ideal.rsqrt (Ideal.div (∑ j, X (ix3 b t j) * X (ix3 b t j)) (Ideal.ofBits .f32 0x44800000#32) + eps) * rw (ix1 k) * iw (ix2 e k) := by
    unfold zx Spec.norm
    simp only [seq_at, hr, hi]
  rw [h]
  pointwise [rP]
  rfl

theorem rZ_val {P : FVec Ideal S2x2048x4256 .f32} (hP : ∀ b (t : Fin 2048) e, P (ix3 b t e) = zx w (x b) t.val e)
    (b : Fin 2) (t : Fin 2048) (e : Fin 2048) : rZ P (ix3 b t e) = zg w (x b) t.val e := by
  unfold zg
  rw [← hP]
  pointwise [rZ]

theorem rPad_val {P : FVec Ideal S2x2048x4256 .f32} (hP : ∀ b (t : Fin 2048) e, P (ix3 b t e) = zx w (x b) t.val e)
    (b : Fin 2) (t : Fin 2051) (j : Fin 2176) : rPad P (ix3 b t j) = if 3 ≤ t.val then raw w (x b) (t.val - 3) j else 0 := by
  pointwise [rPad]
  by_cases h : 3 ≤ t.val
  · rw [dif_pos ⟨h, by omega⟩, if_pos h, hP]
    rfl
  · rw [dif_neg fun q => h q.1, if_neg h]
    show ((((0#32 : BitVec 32).toInt : ℝ)) : EReal) = 0
    simp

theorem rConv_val {A : FVec Ideal S2x2051x2176 .f32} {tp : FVec Ideal S2176x4 .f32} {cb : FVec Ideal S2176 .f32}
    (hA : ∀ b (t : Fin 2051) j, A (ix3 b t j) = if 3 ≤ t.val then raw w (x b) (t.val - 3) j else 0)
    (ht : ∀ j k, tp (ix2 j k) = w.cw j k) (hc : ∀ j, cb (ix1 j) = w.cb j) (b : Fin 2) (t : Fin 2048) (j : Fin 2176) :
    rConv A tp cb (ix3 b t j) = conv w (x b) t.val j := by
  pointwise [rConv]
  simp only [hA, ht, hc]
  unfold conv sh
  rw [show 1 + t.val = t.val + 1 from Nat.add_comm _ _, show 2 + t.val = t.val + 2 from Nat.add_comm _ _, show 3 + t.val = t.val + 3 from Nat.add_comm _ _]
  rfl

theorem rAct_val {C : FVec Ideal S2x2048x2176 .f32} (hC : ∀ b (t : Fin 2048) j, C (ix3 b t j) = conv w (x b) t.val j)
    (b : Fin 2) (t : Fin 2048) (j : Fin 2176) : rAct C (ix3 b t j) = xbc w (x b) t.val j := by
  unfold xbc act Ideal.logistic
  rw [← hC]
  pointwise [rAct]

theorem rPre_val {P : FVec Ideal S2x2048x4256 .f32} {db : FVec Ideal S32 .f32}
    (hP : ∀ b (t : Fin 2048) e, P (ix3 b t e) = zx w (x b) t.val e) (hd : ∀ h, db (ix1 h) = w.dtb h)
    (b : Fin 2) (t : Fin 2048) (h : Fin 32) : rPre P db (ix3 b t h) = dtr w (x b) t.val h + w.dtb h := by
  unfold dtr
  rw [← hP, ← hd]
  pointwise [rPre]

theorem rDt_val {D0 : FVec Ideal S2x2048x32 .f32} (hD : ∀ b (t : Fin 2048) h, D0 (ix3 b t h) = dtr w (x b) t.val h + w.dtb h)
    (b : Fin 2) (t : Fin 2048) (h : Fin 32) : rDt D0 (ix3 b t h) = dt w (x b) t.val h := by
  unfold dt sp
  rw [← hD]
  pointwise [rDt, rSub]
  rw [if_neg fun q => q rfl]
  rfl

theorem rSplit_val {B : FVec Ideal S2x2048x2176 .f32} (hB : ∀ b (t : Fin 2048) j, B (ix3 b t j) = xbc w (x b) t.val j)
    (b : Fin 2) (t : Fin 2048) (h : Fin 32) (p : Fin 64) :
    rSplit B (ix4 b t h p) = xs w (x b) t.val ⟨64 * h.val + p.val, by omega⟩ := by
  unfold xs
  rw [← hB]
  pointwise [rSplit]
  exact congrArg (fun v => B (ix3 b t v)) (Fin.ext (by show h.val * 64 + p.val = 64 * h.val + p.val; omega))

/-- A running fold of a sum is the sum. -/
theorem foldl_sum {N : ℕ} (g : Fin N → EReal) : (List.finRange N).foldl (fun r n => r + g n) 0 = ∑ n, g n := by
  have h : ∀ (l : List (Fin N)) (a : EReal), l.foldl (fun r n => r + g n) a = a + (l.map g).sum := by
    intro l
    induction l with
    | nil => intro a; simp
    | cons q l ih => intro a; rw [List.foldl_cons, ih, List.map_cons, List.sum_cons, add_assoc]
  rw [h, zero_add, Fin.sum_univ_def]

/-- The window's positions along its one long axis. -/
def winEquiv : (⟨3, ![1, 1, 2048]⟩ : Shape).Idx ≃ Fin 2048 where
  toFun i := i 2
  invFun q := ix3 0 0 q
  left_inv i := by
    funext a
    match a with
    | ⟨0, _⟩ => exact Subsingleton.elim (α := Fin 1) _ _
    | ⟨1, _⟩ => exact Subsingleton.elim (α := Fin 1) _ _
    | ⟨2, _⟩ => rfl
  right_inv q := rfl

/-- The last positions of a window, as the positions from the start. -/
theorem sum_shift (f : ℕ → EReal) (t : ℕ) (ht : t < 2048) :
    (∑ q : Fin 2048, if 2047 ≤ t + q.val then f (t + q.val - 2047) else 0) = ∑ s ∈ Finset.range (t + 1), f s := by
  rw [Fin.sum_univ_eq_sum_range (fun q => if 2047 ≤ t + q then f (t + q - 2047) else 0) 2048]
  have e : 2048 = (2047 - t) + (t + 1) := by omega
  rw [e, Finset.sum_range_add, Finset.sum_eq_zero, zero_add]
  · refine Finset.sum_congr rfl fun s _ => ?_
    rw [if_pos (by omega)]
    congr 1
    omega
  · intro s hs
    have := Finset.mem_range.mp hs
    rw [if_neg (by omega)]

/-- One position of the window that ends at position `t`: an element of the row, or the padding's zero. -/
theorem win_at (Y : FVec Ideal S2x32x2048 .f32) (f : ℕ → EReal) (b : Fin 2) (h : Fin 32)
    (hf : ∀ s : Fin 2048, Y (ix3 b h s) = f s.val) (t : Fin 2048) (p : Fin 3 → ℕ) (i : (⟨3, ![1, 1, 2048]⟩ : Shape).Idx)
    (hp : ∀ a : Fin 3, p a = (ix3 b h t a).val * (![1, 1, 1] : Fin 3 → ℕ) a + (i a).val) :
    (if hin : ∀ a : Fin 3, (![0, 0, 2047] : Fin 3 → ℕ) a ≤ p a ∧ p a - (![0, 0, 2047] : Fin 3 → ℕ) a < S2x32x2048.size a then
        Y (fun a => ⟨p a - (![0, 0, 2047] : Fin 3 → ℕ) a, (hin a).2⟩) else 0)
      = if 2047 ≤ t.val + (winEquiv i).val then f (t.val + (winEquiv i).val - 2047) else 0 := by
  have i0 : (i 0).val = 0 := Nat.lt_one_iff.mp (i 0).isLt
  have i1 : (i 1).val = 0 := Nat.lt_one_iff.mp (i 1).isLt
  have p0 : p 0 = b.val := by rw [hp 0, i0]; show b.val * 1 + 0 = b.val; omega
  have p1 : p 1 = h.val := by rw [hp 1, i1]; show h.val * 1 + 0 = h.val; omega
  have p2 : p 2 = t.val + (winEquiv i).val := by rw [hp 2]; show t.val * 1 + (i 2).val = t.val + (i 2).val; omega
  have hq : (winEquiv i).val < 2048 := (winEquiv i).isLt
  by_cases hc : 2047 ≤ t.val + (winEquiv i).val
  · have hin : ∀ a : Fin 3, (![0, 0, 2047] : Fin 3 → ℕ) a ≤ p a ∧ p a - (![0, 0, 2047] : Fin 3 → ℕ) a < S2x32x2048.size a := by
      intro a
      match a with
      | ⟨0, _⟩ => show 0 ≤ p 0 ∧ p 0 - 0 < 2; omega
      | ⟨1, _⟩ => show 0 ≤ p 1 ∧ p 1 - 0 < 32; omega
      | ⟨2, _⟩ => show 2047 ≤ p 2 ∧ p 2 - 2047 < 2048; omega
    rw [dif_pos hin, if_pos hc, ← hf ⟨t.val + (winEquiv i).val - 2047, by omega⟩]
    refine congrArg Y (funext fun a => Fin.ext ?_)
    match a with
    | ⟨0, _⟩ => show p 0 - 0 = b.val; omega
    | ⟨1, _⟩ => show p 1 - 0 = h.val; omega
    | ⟨2, _⟩ => show p 2 - 2047 = t.val + (winEquiv i).val - 2047; omega
  · rw [if_neg hc, dif_neg]
    intro hin
    have := (hin 2).1
    change 2047 ≤ p 2 at this
    omega

/-- The running sum along the last axis. -/
theorem run_sum (Y : FVec Ideal S2x32x2048 .f32) (init : FVec Ideal S_ .f32) (hi : ∀ i, init i = (0 : EReal)) (f : ℕ → EReal) (b : Fin 2) (h : Fin 32)
    (hf : ∀ s : Fin 2048, Y (ix3 b h s) = f s.val) (t : Fin 2048) :
    Host.reduceWindowAdd ![1, 1, 2048] ![1, 1, 1] ![0, 0, 2047] ![0, 0, 0] Y init
      reduceWindows_S2x32x2048_S2x32x2048_w1s1p0_0_w1s1p0_0_w2048s1p2047_0 h_S_ (ix3 b h t) = ∑ s ∈ Finset.range (t.val + 1), f s := by
  unfold Host.reduceWindowAdd
  simp only [Ideal.hostReduceWindowAdd_def]
  unfold Ideal.hostReduceWindowAdd Host.reduceWindow
  simp only [hi]
  rw [foldl_sum]
  rw [← sum_shift f t.val t.isLt]
  rw [← Equiv.sum_comp ((Shape.rowMajor ⟨3, ![1, 1, 2048]⟩).symm.trans winEquiv) (fun q => if 2047 ≤ t.val + q.val then f (t.val + q.val - 2047) else 0)]
  refine Finset.sum_congr rfl fun n _ => ?_
  refine Eq.trans ?_ (win_at Y f b h hf t _ ((Shape.rowMajor ⟨3, ![1, 1, 2048]⟩).symm n) (fun a => rfl))
  rfl

theorem rCs_val {D : FVec Ideal S2x2048x32 .f32} {al : FVec Ideal S32 .f32} (hD : ∀ b (t : Fin 2048) h, D (ix3 b t h) = dt w (x b) t.val h)
    (ha : ∀ h, al (ix1 h) = w.al h) (b : Fin 2) (h : Fin 32) (t : Fin 2048) : rCs D al (ix3 b h t) = cs w (x b) t.val h := by
  unfold rCs cs
  refine run_sum _ _ (fun i => ?_) (fun s => dA w (x b) s h) b h (fun s => ?_) t
  · show Ideal.ofBits .f32 0x00000000#32 = 0
    simp [Ideal.ofBits, Ideal.ieee]
  · pointwise
    rw [hD, ha]
    rfl

/-- The causal mask's select. -/
theorem mask_at {α : Type} (t s : Fin 2048) (p q : α) :
    Scalar.select (Scalar.select (IntOp.cmpi .sge (IntOp.addi (BitVec.ofNat 32 t.val) 0#32) (BitVec.ofNat 32 s.val)) 1#1 0#1) p q
      = if s.val ≤ t.val then p else q := by
  have ht := t.isLt
  have hs := s.isLt
  rw [show IntOp.addi (BitVec.ofNat 32 t.val) 0#32 = BitVec.ofNat 32 t.val from BitVec.add_zero _, WordCmp.cmpi_sge_ofNat (by omega) (by omega)]
  by_cases h : s.val ≤ t.val <;> simp [h, Scalar.select]

/-- The value under the mask. -/
theorem fill_at : id (constant (F := Ideal) S_ .f32 0xFF800000#32) ix0 = (⊥ : EReal) := by
  show Ideal.ofBits .f32 0xFF800000#32 = ⊥
  simp [Ideal.ofBits, Ideal.ieee]

/-- The exponential of a masked difference is the masked exponential. -/
theorem exp_if (p : Prop) [Decidable p] (v : EReal) : Ideal.exp (if p then v else ⊥) = if p then Ideal.exp v else 0 := by
  by_cases h : p
  · rw [if_pos h, if_pos h]
  · rw [if_neg h, if_neg h]
    rfl

/-- The scan's output, by channel. -/
theorem rY_val {B : FVec Ideal S2x2048x2176 .f32} {D : FVec Ideal S2x2048x32 .f32} {U : FVec Ideal S2x2048x32x64 .f32} {S : FVec Ideal S2x32x2048 .f32}
    {dd : FVec Ideal S32 .f32} {Z : FVec Ideal S2x2048x2048 .f32}
    (hB : ∀ b (t : Fin 2048) j, B (ix3 b t j) = xbc w (x b) t.val j) (hD : ∀ b (t : Fin 2048) h, D (ix3 b t h) = dt w (x b) t.val h)
    (hU : ∀ b (t : Fin 2048) (h : Fin 32) (p : Fin 64), U (ix4 b t h p) = xs w (x b) t.val ⟨64 * h.val + p.val, by omega⟩)
    (hS : ∀ b h (t : Fin 2048), S (ix3 b h t) = cs w (x b) t.val h) (hd' : ∀ h, dd (ix1 h) = w.dd h)
    (hZ : ∀ b (t : Fin 2048) e, Z (ix3 b t e) = zg w (x b) t.val e) (b : Fin 2) (t : Fin 2048) (e : Fin 2048) :
    rY B D U S dd Z (ix3 b t e) = u w (x b) t.val e := by
  have he : (⟨64 * (hd e).val + (⟨e.val % 64, Nat.mod_lt _ (by decide)⟩ : Fin 64).val, by have := e.isLt; show 64 * (e.val / 64) + e.val % 64 < 2048; omega⟩ : Fin 2048) = e :=
    Fin.ext (by show 64 * (e.val / 64) + e.val % 64 = e.val; omega)
  have hx : ∀ s : Fin 2048, U (ix4 b s (hd e) ⟨e.val % 64, Nat.mod_lt _ (by decide)⟩) = xs w (x b) s.val e := fun s => by rw [hU, he]
  have h : u w (x b) t.val e = ((∑ s : Fin 2048, U (ix4 b s (hd e) ⟨e.val % 64, Nat.mod_lt _ (by decide)⟩) * D (ix3 b s (hd e))
      * ((∑ n : Fin 64, B (ix3 b t ⟨2112 + n.val, by omega⟩) * B (ix3 b s ⟨2048 + n.val, by omega⟩))
        * Ideal.exp (if s.val ≤ t.val then S (ix3 b (hd e) t) - S (ix3 b (hd e) s) else ⊥)))
      + dd (ix1 (hd e)) * U (ix4 b t (hd e) ⟨e.val % 64, Nat.mod_lt _ (by decide)⟩))
      * (Z (ix3 b t e) * Ideal.div 1 (1 + Ideal.exp (-Z (ix3 b t e)))) := by
    simp only [hx, hD, hB, hS, hd', hZ, exp_if]
    rfl
  rw [h]
  pointwise [rY]
  simp only [mask_at, fill_at]
  rfl

theorem rOut_val {X : FVec Ideal S2x2048x1024 .f32} {Y : FVec Ideal S2x2048x2048 .f32} {gn : FVec Ideal S2048 .f32} {ow : FVec Ideal S1024x2048 .f32}
    (hY : ∀ b (t : Fin 2048) e, Y (ix3 b t e) = u w (seq X b) t.val e) (hg : ∀ e, gn (ix1 e) = w.gn e) (ho : ∀ d e, ow (ix2 d e) = w.ow d e)
    (b : Fin 2) (t : Fin 2048) (d : Fin 1024) : rOut X Y gn ow (ix3 b t d) = layer w (seq X b) t.val d := by
  have h : layer w (seq X b) t.val d = X (ix3 b t d) + ∑ k, Y (ix3 b t k) * Ideal.rsqrt (Ideal.div (∑ j, Y (ix3 b t j) * Y (ix3 b t j)) (Ideal.ofBits .f32 0x45000000#32) + eps) * gn (ix1 k) * ow (ix2 d k) := by
    unfold layer Spec.norm
    simp only [seq_at, hY, hg, ho]
  rw [h]
  pointwise [rOut]
  rfl

/-- The layer of arrays that hold the weights `w` is the layer of the sequences. -/
theorem rLayer_val {X : FVec Ideal S2x2048x1024 .f32} {iw : FVec Ideal S4256x1024 .f32} {tp : FVec Ideal S2176x4 .f32} {cb : FVec Ideal S2176 .f32}
    {db al dd : FVec Ideal S32 .f32} {gn : FVec Ideal S2048 .f32} {ow : FVec Ideal S1024x2048 .f32} {rw : FVec Ideal S1024 .f32}
    (h1 : ∀ e k, iw (ix2 e k) = w.iw e k) (h2 : ∀ j k, tp (ix2 j k) = w.cw j k) (h3 : ∀ j, cb (ix1 j) = w.cb j) (h4 : ∀ h, db (ix1 h) = w.dtb h)
    (h5 : ∀ h, al (ix1 h) = w.al h) (h6 : ∀ h, dd (ix1 h) = w.dd h) (h7 : ∀ e, gn (ix1 e) = w.gn e) (h8 : ∀ d e, ow (ix2 d e) = w.ow d e)
    (h9 : ∀ k, rw (ix1 k) = w.rw k) (b : Fin 2) (t : Fin 2048) (d : Fin 1024) :
    rLayer X iw tp cb db al dd gn ow rw (ix3 b t d) = layer w (seq X b) t.val d := by
  have hP : ∀ b (t : Fin 2048) e, rP X rw iw (ix3 b t e) = zx w (seq X b) t.val e := fun b t e => rP_val h9 h1 b t e
  have hB : ∀ b (t : Fin 2048) j, rAct (rConv (rPad (rP X rw iw)) tp cb) (ix3 b t j) = xbc w (seq X b) t.val j :=
    rAct_val (rConv_val (rPad_val (x := fun b => seq X b) hP) h2 h3)
  have hD : ∀ b (t : Fin 2048) h, rDt (rPre (rP X rw iw) db) (ix3 b t h) = dt w (seq X b) t.val h := rDt_val (rPre_val (x := fun b => seq X b) hP h4)
  exact rOut_val (rY_val (x := fun b => seq X b) hB hD (rSplit_val (x := fun b => seq X b) hB) (rCs_val (x := fun b => seq X b) hD h5) h6
    (rZ_val (x := fun b => seq X b) hP)) h7 h8 b t d

/-- One more layer: if `X` holds the sequences after `n` layers and `Y` the layer of `X`, `Y` holds the sequences after `n + 1`. -/
theorem seq_next {X Y : FVec Ideal S2x2048x1024 .f32} {W : Fin 4 → Wt} {n : ℕ} (hX : ∀ b, seq X b = stack W (x b) n)
    (hY : ∀ b (t : Fin 2048) d, Y (ix3 b t d) = layer (W ⟨n % 4, Nat.mod_lt _ (by decide)⟩) (seq X b) t.val d) (b : Fin 2) :
    seq Y b = stack W (x b) (n + 1) := by
  funext t d
  show (if h : t < 2048 then Y (ix3 b ⟨t, h⟩ d) else 0) = if t < 2048 then layer (W ⟨n % 4, Nat.mod_lt _ (by decide)⟩) (stack W (x b) n) t d else 0
  by_cases h : t < 2048
  · rw [dif_pos h, if_pos h, hY, hX]
  · rw [dif_neg h, if_neg h]

end Cert.ReferenceIdeal

end
-- ==== Proof.ReferenceIdeal.Result.lean ====
module

public import proofs.«01_k».proof.Proof.ReferenceIdeal.Read
public import proofs.«01_k».proof.Proof.Gen.ReferenceIdeal.Run

@[expose] public section

set_option maxRecDepth 16384

noncomputable section

/-! # The reference's value

The result of each of the four layers is the layer function of the one before, so the program's result is the fourth
member of the stack. -/

namespace Cert.ReferenceIdeal

open Idealize.ShloMosaic Idealize.ShloMosaic.TcCoe Idealize.ShloMosaic.Tactic Cert.Spec Cert.ReferenceIdeal.Gen Cert.ReferenceIdeal.Value
open Idealize.SL.Sem Idealize.ShloMosaic.StableHlo

variable (V0 : Valuation τ sig (Elt Ideal))

/-- The weights, by layer. -/
def rwts : Fin 4 → Wt :=
  wtOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))

/-- Layer 0 is the layer function. -/
theorem layer0_eq : res_main_v133 V0 =
    rLayer (V0 (Proc.devRef .tc main_arg0)) (shapeCast S4256x1024 (extractStridedSlice S1x4256x1024 ![0, 0, 0] (V0 (Proc.devRef .tc main_arg1)) slices_S4x4256x1024_S1x4256x1024_0_0_0) shapeCasts_S1x4256x1024_S4256x1024) (shapeCast S2176x4 (extractStridedSlice S1x2176x4 ![0, 0, 0] (V0 (Proc.devRef .tc main_arg2)) slices_S4x2176x4_S1x2176x4_0_0_0) shapeCasts_S1x2176x4_S2176x4) (shapeCast S2176 (extractStridedSlice S1x2176 ![0, 0] (V0 (Proc.devRef .tc main_arg3)) slices_S4x2176_S1x2176_0_0) shapeCasts_S1x2176_S2176) (shapeCast S32 (extractStridedSlice S1x32 ![0, 0] (V0 (Proc.devRef .tc main_arg4)) slices_S4x32_S1x32_0_0) shapeCasts_S1x32_S32) (shapeCast S32 (extractStridedSlice S1x32 ![0, 0] (V0 (Proc.devRef .tc main_arg5)) slices_S4x32_S1x32_0_0) shapeCasts_S1x32_S32) (shapeCast S32 (extractStridedSlice S1x32 ![0, 0] (V0 (Proc.devRef .tc main_arg6)) slices_S4x32_S1x32_0_0) shapeCasts_S1x32_S32) (shapeCast S2048 (extractStridedSlice S1x2048 ![0, 0] (V0 (Proc.devRef .tc main_arg7)) slices_S4x2048_S1x2048_0_0) shapeCasts_S1x2048_S2048) (shapeCast S1024x2048 (extractStridedSlice S1x1024x2048 ![0, 0, 0] (V0 (Proc.devRef .tc main_arg8)) slices_S4x1024x2048_S1x1024x2048_0_0_0) shapeCasts_S1x1024x2048_S1024x2048) (shapeCast S1024 (extractStridedSlice S1x1024 ![0, 0] (V0 (Proc.devRef .tc main_arg9)) slices_S4x1024_S1x1024_0_0) shapeCasts_S1x1024_S1024) := by
  have h18 : res_main_v18 V0 = shapeCast S2176x4 (extractStridedSlice S1x2176x4 ![0, 0, 0] (V0 (Proc.devRef .tc main_arg2)) slices_S4x2176x4_S1x2176x4_0_0_0) shapeCasts_S1x2176x4_S2176x4 := rfl
  have h31 : res_main_v31 V0 = rP (V0 (Proc.devRef .tc main_arg0)) (shapeCast S1024 (extractStridedSlice S1x1024 ![0, 0] (V0 (Proc.devRef .tc main_arg9)) slices_S4x1024_S1x1024_0_0) shapeCasts_S1x1024_S1024) (shapeCast S4256x1024 (extractStridedSlice S1x4256x1024 ![0, 0, 0] (V0 (Proc.devRef .tc main_arg1)) slices_S4x4256x1024_S1x4256x1024_0_0_0) shapeCasts_S1x4256x1024_S4256x1024) := rfl
  have h32 : res_main_v32 V0 = rZ (res_main_v31 V0) := rfl
  have h35 : res_main_v35 V0 = rPad (res_main_v31 V0) := rfl
  have h65 : res_main_v65 V0 = rConv (res_main_v35 V0) (res_main_v18 V0) (shapeCast S2176 (extractStridedSlice S1x2176 ![0, 0] (V0 (Proc.devRef .tc main_arg3)) slices_S4x2176_S1x2176_0_0) shapeCasts_S1x2176_S2176) := rfl
  have h72 : res_main_v72 V0 = rAct (res_main_v65 V0) := rfl
  have h78 : res_main_v78 V0 = rPre (res_main_v31 V0) (shapeCast S32 (extractStridedSlice S1x32 ![0, 0] (V0 (Proc.devRef .tc main_arg4)) slices_S4x32_S1x32_0_0) shapeCasts_S1x32_S32) := rfl
  have h79 : res_main_v79 V0 = rDt (res_main_v78 V0) := rfl
  have h82 : res_main_v82 V0 = rSplit (res_main_v72 V0) := rfl
  have h90 : res_main_v90 V0 = rCs (res_main_v79 V0) (shapeCast S32 (extractStridedSlice S1x32 ![0, 0] (V0 (Proc.devRef .tc main_arg5)) slices_S4x32_S1x32_0_0) shapeCasts_S1x32_S32) := rfl
  have h118 : res_main_v118 V0 = rY (res_main_v72 V0) (res_main_v79 V0) (res_main_v82 V0) (res_main_v90 V0) (shapeCast S32 (extractStridedSlice S1x32 ![0, 0] (V0 (Proc.devRef .tc main_arg6)) slices_S4x32_S1x32_0_0) shapeCasts_S1x32_S32) (res_main_v32 V0) := rfl
  have h133 : res_main_v133 V0 = rOut (V0 (Proc.devRef .tc main_arg0)) (res_main_v118 V0) (shapeCast S2048 (extractStridedSlice S1x2048 ![0, 0] (V0 (Proc.devRef .tc main_arg7)) slices_S4x2048_S1x2048_0_0) shapeCasts_S1x2048_S2048) (shapeCast S1024x2048 (extractStridedSlice S1x1024x2048 ![0, 0, 0] (V0 (Proc.devRef .tc main_arg8)) slices_S4x1024x2048_S1x1024x2048_0_0_0) shapeCasts_S1x1024x2048_S1024x2048) := rfl
  unfold rLayer
  rw [h133, h118, h90, h82, h79, h78, h72, h65, h35, h32, h31, h18]

/-- Layer 0 at an index. -/
theorem layer0_val (b : Fin 2) (t : Fin 2048) (d : Fin 1024) :
    (res_main_v133 V0 : FVec Ideal S2x2048x1024 .f32) (ix3 b t d) = layer (rwts V0 ⟨0 % 4, Nat.mod_lt _ (by decide)⟩) (seq (V0 (Proc.devRef .tc main_arg0)) b) t.val d := by
  rw [layer0_eq]
  refine rLayer_val (fun e k => ?_) (fun e k => ?_) (fun e => ?_) (fun e => ?_) (fun e => ?_) (fun e => ?_) (fun e => ?_) (fun e k => ?_) (fun e => ?_) b t d <;>
  · pointwise
    rfl

/-- Layer 1 is the layer function. -/
theorem layer1_eq : res_main_v267 V0 =
    rLayer (res_main_v133 V0) (shapeCast S4256x1024 (extractStridedSlice S1x4256x1024 ![1, 0, 0] (V0 (Proc.devRef .tc main_arg1)) slices_S4x4256x1024_S1x4256x1024_1_0_0) shapeCasts_S1x4256x1024_S4256x1024) (shapeCast S2176x4 (extractStridedSlice S1x2176x4 ![1, 0, 0] (V0 (Proc.devRef .tc main_arg2)) slices_S4x2176x4_S1x2176x4_1_0_0) shapeCasts_S1x2176x4_S2176x4) (shapeCast S2176 (extractStridedSlice S1x2176 ![1, 0] (V0 (Proc.devRef .tc main_arg3)) slices_S4x2176_S1x2176_1_0) shapeCasts_S1x2176_S2176) (shapeCast S32 (extractStridedSlice S1x32 ![1, 0] (V0 (Proc.devRef .tc main_arg4)) slices_S4x32_S1x32_1_0) shapeCasts_S1x32_S32) (shapeCast S32 (extractStridedSlice S1x32 ![1, 0] (V0 (Proc.devRef .tc main_arg5)) slices_S4x32_S1x32_1_0) shapeCasts_S1x32_S32) (shapeCast S32 (extractStridedSlice S1x32 ![1, 0] (V0 (Proc.devRef .tc main_arg6)) slices_S4x32_S1x32_1_0) shapeCasts_S1x32_S32) (shapeCast S2048 (extractStridedSlice S1x2048 ![1, 0] (V0 (Proc.devRef .tc main_arg7)) slices_S4x2048_S1x2048_1_0) shapeCasts_S1x2048_S2048) (shapeCast S1024x2048 (extractStridedSlice S1x1024x2048 ![1, 0, 0] (V0 (Proc.devRef .tc main_arg8)) slices_S4x1024x2048_S1x1024x2048_1_0_0) shapeCasts_S1x1024x2048_S1024x2048) (shapeCast S1024 (extractStridedSlice S1x1024 ![1, 0] (V0 (Proc.devRef .tc main_arg9)) slices_S4x1024_S1x1024_1_0) shapeCasts_S1x1024_S1024) := by
  have h18 : res_main_v152 V0 = shapeCast S2176x4 (extractStridedSlice S1x2176x4 ![1, 0, 0] (V0 (Proc.devRef .tc main_arg2)) slices_S4x2176x4_S1x2176x4_1_0_0) shapeCasts_S1x2176x4_S2176x4 := rfl
  have h31 : res_main_v165 V0 = rP (res_main_v133 V0) (shapeCast S1024 (extractStridedSlice S1x1024 ![1, 0] (V0 (Proc.devRef .tc main_arg9)) slices_S4x1024_S1x1024_1_0) shapeCasts_S1x1024_S1024) (shapeCast S4256x1024 (extractStridedSlice S1x4256x1024 ![1, 0, 0] (V0 (Proc.devRef .tc main_arg1)) slices_S4x4256x1024_S1x4256x1024_1_0_0) shapeCasts_S1x4256x1024_S4256x1024) := rfl
  have h32 : res_main_v166 V0 = rZ (res_main_v165 V0) := rfl
  have h35 : res_main_v169 V0 = rPad (res_main_v165 V0) := rfl
  have h65 : res_main_v199 V0 = rConv (res_main_v169 V0) (res_main_v152 V0) (shapeCast S2176 (extractStridedSlice S1x2176 ![1, 0] (V0 (Proc.devRef .tc main_arg3)) slices_S4x2176_S1x2176_1_0) shapeCasts_S1x2176_S2176) := rfl
  have h72 : res_main_v206 V0 = rAct (res_main_v199 V0) := rfl
  have h78 : res_main_v212 V0 = rPre (res_main_v165 V0) (shapeCast S32 (extractStridedSlice S1x32 ![1, 0] (V0 (Proc.devRef .tc main_arg4)) slices_S4x32_S1x32_1_0) shapeCasts_S1x32_S32) := rfl
  have h79 : res_main_v213 V0 = rDt (res_main_v212 V0) := rfl
  have h82 : res_main_v216 V0 = rSplit (res_main_v206 V0) := rfl
  have h90 : res_main_v224 V0 = rCs (res_main_v213 V0) (shapeCast S32 (extractStridedSlice S1x32 ![1, 0] (V0 (Proc.devRef .tc main_arg5)) slices_S4x32_S1x32_1_0) shapeCasts_S1x32_S32) := rfl
  have h118 : res_main_v252 V0 = rY (res_main_v206 V0) (res_main_v213 V0) (res_main_v216 V0) (res_main_v224 V0) (shapeCast S32 (extractStridedSlice S1x32 ![1, 0] (V0 (Proc.devRef .tc main_arg6)) slices_S4x32_S1x32_1_0) shapeCasts_S1x32_S32) (res_main_v166 V0) := rfl
  have h133 : res_main_v267 V0 = rOut (res_main_v133 V0) (res_main_v252 V0) (shapeCast S2048 (extractStridedSlice S1x2048 ![1, 0] (V0 (Proc.devRef .tc main_arg7)) slices_S4x2048_S1x2048_1_0) shapeCasts_S1x2048_S2048) (shapeCast S1024x2048 (extractStridedSlice S1x1024x2048 ![1, 0, 0] (V0 (Proc.devRef .tc main_arg8)) slices_S4x1024x2048_S1x1024x2048_1_0_0) shapeCasts_S1x1024x2048_S1024x2048) := rfl
  unfold rLayer
  rw [h133, h118, h90, h82, h79, h78, h72, h65, h35, h32, h31, h18]

/-- Layer 1 at an index. -/
theorem layer1_val (b : Fin 2) (t : Fin 2048) (d : Fin 1024) :
    (res_main_v267 V0 : FVec Ideal S2x2048x1024 .f32) (ix3 b t d) = layer (rwts V0 ⟨1 % 4, Nat.mod_lt _ (by decide)⟩) (seq (res_main_v133 V0) b) t.val d := by
  rw [layer1_eq]
  refine rLayer_val (fun e k => ?_) (fun e k => ?_) (fun e => ?_) (fun e => ?_) (fun e => ?_) (fun e => ?_) (fun e => ?_) (fun e k => ?_) (fun e => ?_) b t d <;>
  · pointwise
    rfl

/-- Layer 2 is the layer function. -/
theorem layer2_eq : res_main_v401 V0 =
    rLayer (res_main_v267 V0) (shapeCast S4256x1024 (extractStridedSlice S1x4256x1024 ![2, 0, 0] (V0 (Proc.devRef .tc main_arg1)) slices_S4x4256x1024_S1x4256x1024_2_0_0) shapeCasts_S1x4256x1024_S4256x1024) (shapeCast S2176x4 (extractStridedSlice S1x2176x4 ![2, 0, 0] (V0 (Proc.devRef .tc main_arg2)) slices_S4x2176x4_S1x2176x4_2_0_0) shapeCasts_S1x2176x4_S2176x4) (shapeCast S2176 (extractStridedSlice S1x2176 ![2, 0] (V0 (Proc.devRef .tc main_arg3)) slices_S4x2176_S1x2176_2_0) shapeCasts_S1x2176_S2176) (shapeCast S32 (extractStridedSlice S1x32 ![2, 0] (V0 (Proc.devRef .tc main_arg4)) slices_S4x32_S1x32_2_0) shapeCasts_S1x32_S32) (shapeCast S32 (extractStridedSlice S1x32 ![2, 0] (V0 (Proc.devRef .tc main_arg5)) slices_S4x32_S1x32_2_0) shapeCasts_S1x32_S32) (shapeCast S32 (extractStridedSlice S1x32 ![2, 0] (V0 (Proc.devRef .tc main_arg6)) slices_S4x32_S1x32_2_0) shapeCasts_S1x32_S32) (shapeCast S2048 (extractStridedSlice S1x2048 ![2, 0] (V0 (Proc.devRef .tc main_arg7)) slices_S4x2048_S1x2048_2_0) shapeCasts_S1x2048_S2048) (shapeCast S1024x2048 (extractStridedSlice S1x1024x2048 ![2, 0, 0] (V0 (Proc.devRef .tc main_arg8)) slices_S4x1024x2048_S1x1024x2048_2_0_0) shapeCasts_S1x1024x2048_S1024x2048) (shapeCast S1024 (extractStridedSlice S1x1024 ![2, 0] (V0 (Proc.devRef .tc main_arg9)) slices_S4x1024_S1x1024_2_0) shapeCasts_S1x1024_S1024) := by
  have h18 : res_main_v286 V0 = shapeCast S2176x4 (extractStridedSlice S1x2176x4 ![2, 0, 0] (V0 (Proc.devRef .tc main_arg2)) slices_S4x2176x4_S1x2176x4_2_0_0) shapeCasts_S1x2176x4_S2176x4 := rfl
  have h31 : res_main_v299 V0 = rP (res_main_v267 V0) (shapeCast S1024 (extractStridedSlice S1x1024 ![2, 0] (V0 (Proc.devRef .tc main_arg9)) slices_S4x1024_S1x1024_2_0) shapeCasts_S1x1024_S1024) (shapeCast S4256x1024 (extractStridedSlice S1x4256x1024 ![2, 0, 0] (V0 (Proc.devRef .tc main_arg1)) slices_S4x4256x1024_S1x4256x1024_2_0_0) shapeCasts_S1x4256x1024_S4256x1024) := rfl
  have h32 : res_main_v300 V0 = rZ (res_main_v299 V0) := rfl
  have h35 : res_main_v303 V0 = rPad (res_main_v299 V0) := rfl
  have h65 : res_main_v333 V0 = rConv (res_main_v303 V0) (res_main_v286 V0) (shapeCast S2176 (extractStridedSlice S1x2176 ![2, 0] (V0 (Proc.devRef .tc main_arg3)) slices_S4x2176_S1x2176_2_0) shapeCasts_S1x2176_S2176) := rfl
  have h72 : res_main_v340 V0 = rAct (res_main_v333 V0) := rfl
  have h78 : res_main_v346 V0 = rPre (res_main_v299 V0) (shapeCast S32 (extractStridedSlice S1x32 ![2, 0] (V0 (Proc.devRef .tc main_arg4)) slices_S4x32_S1x32_2_0) shapeCasts_S1x32_S32) := rfl
  have h79 : res_main_v347 V0 = rDt (res_main_v346 V0) := rfl
  have h82 : res_main_v350 V0 = rSplit (res_main_v340 V0) := rfl
  have h90 : res_main_v358 V0 = rCs (res_main_v347 V0) (shapeCast S32 (extractStridedSlice S1x32 ![2, 0] (V0 (Proc.devRef .tc main_arg5)) slices_S4x32_S1x32_2_0) shapeCasts_S1x32_S32) := rfl
  have h118 : res_main_v386 V0 = rY (res_main_v340 V0) (res_main_v347 V0) (res_main_v350 V0) (res_main_v358 V0) (shapeCast S32 (extractStridedSlice S1x32 ![2, 0] (V0 (Proc.devRef .tc main_arg6)) slices_S4x32_S1x32_2_0) shapeCasts_S1x32_S32) (res_main_v300 V0) := rfl
  have h133 : res_main_v401 V0 = rOut (res_main_v267 V0) (res_main_v386 V0) (shapeCast S2048 (extractStridedSlice S1x2048 ![2, 0] (V0 (Proc.devRef .tc main_arg7)) slices_S4x2048_S1x2048_2_0) shapeCasts_S1x2048_S2048) (shapeCast S1024x2048 (extractStridedSlice S1x1024x2048 ![2, 0, 0] (V0 (Proc.devRef .tc main_arg8)) slices_S4x1024x2048_S1x1024x2048_2_0_0) shapeCasts_S1x1024x2048_S1024x2048) := rfl
  unfold rLayer
  rw [h133, h118, h90, h82, h79, h78, h72, h65, h35, h32, h31, h18]

/-- Layer 2 at an index. -/
theorem layer2_val (b : Fin 2) (t : Fin 2048) (d : Fin 1024) :
    (res_main_v401 V0 : FVec Ideal S2x2048x1024 .f32) (ix3 b t d) = layer (rwts V0 ⟨2 % 4, Nat.mod_lt _ (by decide)⟩) (seq (res_main_v267 V0) b) t.val d := by
  rw [layer2_eq]
  refine rLayer_val (fun e k => ?_) (fun e k => ?_) (fun e => ?_) (fun e => ?_) (fun e => ?_) (fun e => ?_) (fun e => ?_) (fun e k => ?_) (fun e => ?_) b t d <;>
  · pointwise
    rfl

/-- Layer 3 is the layer function. -/
theorem layer3_eq : rOut (res_main_v401 V0) (res_main_v520 V0) (shapeCast S2048 (extractStridedSlice S1x2048 ![3, 0] (V0 (Proc.devRef .tc main_arg7)) slices_S4x2048_S1x2048_3_0) shapeCasts_S1x2048_S2048) (shapeCast S1024x2048 (extractStridedSlice S1x1024x2048 ![3, 0, 0] (V0 (Proc.devRef .tc main_arg8)) slices_S4x1024x2048_S1x1024x2048_3_0_0) shapeCasts_S1x1024x2048_S1024x2048) =
    rLayer (res_main_v401 V0) (shapeCast S4256x1024 (extractStridedSlice S1x4256x1024 ![3, 0, 0] (V0 (Proc.devRef .tc main_arg1)) slices_S4x4256x1024_S1x4256x1024_3_0_0) shapeCasts_S1x4256x1024_S4256x1024) (shapeCast S2176x4 (extractStridedSlice S1x2176x4 ![3, 0, 0] (V0 (Proc.devRef .tc main_arg2)) slices_S4x2176x4_S1x2176x4_3_0_0) shapeCasts_S1x2176x4_S2176x4) (shapeCast S2176 (extractStridedSlice S1x2176 ![3, 0] (V0 (Proc.devRef .tc main_arg3)) slices_S4x2176_S1x2176_3_0) shapeCasts_S1x2176_S2176) (shapeCast S32 (extractStridedSlice S1x32 ![3, 0] (V0 (Proc.devRef .tc main_arg4)) slices_S4x32_S1x32_3_0) shapeCasts_S1x32_S32) (shapeCast S32 (extractStridedSlice S1x32 ![3, 0] (V0 (Proc.devRef .tc main_arg5)) slices_S4x32_S1x32_3_0) shapeCasts_S1x32_S32) (shapeCast S32 (extractStridedSlice S1x32 ![3, 0] (V0 (Proc.devRef .tc main_arg6)) slices_S4x32_S1x32_3_0) shapeCasts_S1x32_S32) (shapeCast S2048 (extractStridedSlice S1x2048 ![3, 0] (V0 (Proc.devRef .tc main_arg7)) slices_S4x2048_S1x2048_3_0) shapeCasts_S1x2048_S2048) (shapeCast S1024x2048 (extractStridedSlice S1x1024x2048 ![3, 0, 0] (V0 (Proc.devRef .tc main_arg8)) slices_S4x1024x2048_S1x1024x2048_3_0_0) shapeCasts_S1x1024x2048_S1024x2048) (shapeCast S1024 (extractStridedSlice S1x1024 ![3, 0] (V0 (Proc.devRef .tc main_arg9)) slices_S4x1024_S1x1024_3_0) shapeCasts_S1x1024_S1024) := by
  have h18 : res_main_v420 V0 = shapeCast S2176x4 (extractStridedSlice S1x2176x4 ![3, 0, 0] (V0 (Proc.devRef .tc main_arg2)) slices_S4x2176x4_S1x2176x4_3_0_0) shapeCasts_S1x2176x4_S2176x4 := rfl
  have h31 : res_main_v433 V0 = rP (res_main_v401 V0) (shapeCast S1024 (extractStridedSlice S1x1024 ![3, 0] (V0 (Proc.devRef .tc main_arg9)) slices_S4x1024_S1x1024_3_0) shapeCasts_S1x1024_S1024) (shapeCast S4256x1024 (extractStridedSlice S1x4256x1024 ![3, 0, 0] (V0 (Proc.devRef .tc main_arg1)) slices_S4x4256x1024_S1x4256x1024_3_0_0) shapeCasts_S1x4256x1024_S4256x1024) := rfl
  have h32 : res_main_v434 V0 = rZ (res_main_v433 V0) := rfl
  have h35 : res_main_v437 V0 = rPad (res_main_v433 V0) := rfl
  have h65 : res_main_v467 V0 = rConv (res_main_v437 V0) (res_main_v420 V0) (shapeCast S2176 (extractStridedSlice S1x2176 ![3, 0] (V0 (Proc.devRef .tc main_arg3)) slices_S4x2176_S1x2176_3_0) shapeCasts_S1x2176_S2176) := rfl
  have h72 : res_main_v474 V0 = rAct (res_main_v467 V0) := rfl
  have h78 : res_main_v480 V0 = rPre (res_main_v433 V0) (shapeCast S32 (extractStridedSlice S1x32 ![3, 0] (V0 (Proc.devRef .tc main_arg4)) slices_S4x32_S1x32_3_0) shapeCasts_S1x32_S32) := rfl
  have h79 : res_main_v481 V0 = rDt (res_main_v480 V0) := rfl
  have h82 : res_main_v484 V0 = rSplit (res_main_v474 V0) := rfl
  have h90 : res_main_v492 V0 = rCs (res_main_v481 V0) (shapeCast S32 (extractStridedSlice S1x32 ![3, 0] (V0 (Proc.devRef .tc main_arg5)) slices_S4x32_S1x32_3_0) shapeCasts_S1x32_S32) := rfl
  have h118 : res_main_v520 V0 = rY (res_main_v474 V0) (res_main_v481 V0) (res_main_v484 V0) (res_main_v492 V0) (shapeCast S32 (extractStridedSlice S1x32 ![3, 0] (V0 (Proc.devRef .tc main_arg6)) slices_S4x32_S1x32_3_0) shapeCasts_S1x32_S32) (res_main_v434 V0) := rfl
  unfold rLayer
  rw [h118, h90, h82, h79, h78, h72, h65, h35, h32, h31, h18]

/-- Layer 3 at an index. -/
theorem layer3_val (b : Fin 2) (t : Fin 2048) (d : Fin 1024) :
    (rOut (res_main_v401 V0) (res_main_v520 V0) (shapeCast S2048 (extractStridedSlice S1x2048 ![3, 0] (V0 (Proc.devRef .tc main_arg7)) slices_S4x2048_S1x2048_3_0) shapeCasts_S1x2048_S2048) (shapeCast S1024x2048 (extractStridedSlice S1x1024x2048 ![3, 0, 0] (V0 (Proc.devRef .tc main_arg8)) slices_S4x1024x2048_S1x1024x2048_3_0_0) shapeCasts_S1x1024x2048_S1024x2048) : FVec Ideal S2x2048x1024 .f32) (ix3 b t d) = layer (rwts V0 ⟨3 % 4, Nat.mod_lt _ (by decide)⟩) (seq (res_main_v401 V0) b) t.val d := by
  rw [layer3_eq]
  refine rLayer_val (fun e k => ?_) (fun e k => ?_) (fun e => ?_) (fun e => ?_) (fun e => ?_) (fun e => ?_) (fun e => ?_) (fun e k => ?_) (fun e => ?_) b t d <;>
  · pointwise
    rfl

/-- The result holds the sequences after four layers. -/
theorem out_val (b : Fin 2) (t : Fin 2048) (d : Fin 1024) :
    rOut (res_main_v401 V0) (res_main_v520 V0) (shapeCast S2048 (extractStridedSlice S1x2048 ![3, 0] (V0 (Proc.devRef .tc main_arg7)) slices_S4x2048_S1x2048_3_0) shapeCasts_S1x2048_S2048) (shapeCast S1024x2048 (extractStridedSlice S1x1024x2048 ![3, 0, 0] (V0 (Proc.devRef .tc main_arg8)) slices_S4x1024x2048_S1x1024x2048_3_0_0) shapeCasts_S1x1024x2048_S1024x2048) (ix3 b t d)
      = stack (rwts V0) (seq (V0 (Proc.devRef .tc main_arg0)) b) 4 t.val d := by
  have h1 := seq_next (x := fun b => seq (V0 (Proc.devRef .tc main_arg0)) b) (W := rwts V0) (n := 0) (fun _ => rfl) (layer0_val V0)
  have h2 := seq_next (x := fun b => seq (V0 (Proc.devRef .tc main_arg0)) b) (W := rwts V0) (n := 1) h1 (layer1_val V0)
  have h3 := seq_next (x := fun b => seq (V0 (Proc.devRef .tc main_arg0)) b) (W := rwts V0) (n := 2) h2 (layer2_val V0)
  have h4 := seq_next (x := fun b => seq (V0 (Proc.devRef .tc main_arg0)) b) (W := rwts V0) (n := 3) h3 (layer3_val V0)
  exact (seq_at _ b t d).symm.trans (congrFun (congrFun (h4 b) t.val) d)

/-- The whole run: the result holds the fourth layer's values, and the arguments are unchanged. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD, ∀ (b : Fin 2) (t : Fin 2048) (d : Fin 1024),
      r.2.mem ((c.tc : Thread nD τ).loc main_v535) (ix3 b t d)
        = stack (rwts (launchContents m c)) (seq (m ((c.tc : Thread nD τ).loc main_arg0)) b) 4 t.val d) :=
  (θ_run defs _ _).mono (fun _ h c b t d => (congrFun (h c).1 (ix3 b t d)).trans (out_val (launchContents m c) b t d)) (Value.run m ρ)

end Cert.ReferenceIdeal

end
-- ==== Proof.Value.lean ====
module

public import proofs.«01_k».proof.Defs
public import proofs.«01_k».proof.Proof.KernelIdeal.Out
public import proofs.«01_k».proof.Proof.ReferenceIdeal.Result

@[expose] public section

set_option maxRecDepth 16384

noncomputable section

/-! # The value claim -/

/-- The shape relations of the precondition. -/
theorem Cert.Pre_finite_weights.facts : Cert.Pre_finite_weights.Facts where
  bcast_S_S4x4256x1024 := by decide
  bcast_S_S4x2176x4 := by decide
  bcast_S_S4x2176 := by decide
  bcast_S_S4x32 := by decide
  bcast_S_S4x1024 := by decide

namespace Cert.Proof

open Idealize.ShloMosaic Idealize.SL.Sem Cert.Spec

attribute [local instance] Cert.Pre_finite_weights.facts

/-- A number whose absolute value is below infinity is real. -/
theorem re_of_abs_lt {v : EReal} (h : max v (-v) < ⊤) : Re v := by
  induction v with
  | bot => simp at h
  | top => simp at h
  | coe r => exact ⟨r, rfl⟩

/-- An array of which the precondition's comparison holds everywhere has real elements. -/
theorem re_of_pre {s : Shape} (a : FVec Ideal s .f32) (hb : (⟨0, ![]⟩ : Shape).BroadcastsInDim s (![] : Fin 0 → Fin s.rank))
    (h : cmpf .olt (Host.absf a) (broadcastInDim s ![] hb (constant (F := Ideal) ⟨0, ![]⟩ .f32 0x7F800000#32)) = fun _ => 1#1) (i : s.Idx) : Re (a i) := by
  have h1 := congrFun h i
  have e : Ideal.ofBits .f32 0x7F800000#32 = ⊤ := by simp [Ideal.ofBits, Ideal.ieee]
  change Ideal.cmp .olt (max (a i) (-(a i))) (Ideal.ofBits .f32 0x7F800000#32) = 1#1 at h1
  rw [e] at h1
  refine re_of_abs_lt ?_
  by_contra hn
  simp [Ideal.cmp, hn] at h1

/-- The precondition makes the weights real. -/
theorem wts_real (m : (ℓ : Loc Cert.KernelIdeal.nD Cert.KernelIdeal.τ Cert.KernelIdeal.sig) → Buf (Elt Ideal) ℓ)
    (h : Pre_KernelIdeal_finite_weights m) (c : Dev Cert.KernelIdeal.nD) (i : Fin 4) : (Cert.KernelIdeal.wts m c i).Real := by
  obtain ⟨p1, p2, p3, p4, p9⟩ := h c
  exact ⟨fun e k => re_of_pre _ _ p1 (ix3 i e k), fun j k => re_of_pre _ _ p2 (ix3 i j k), fun j => re_of_pre _ _ p3 (ix2 i j),
    fun j => re_of_pre _ _ p4 (ix2 i j), fun k => re_of_pre _ _ p9 (ix2 i k)⟩

/-- Both programs end with the fourth layer's values. -/
theorem value : Cert.algebraic_KernelIdeal_ReferenceIdeal_pre_finite_weights := by
  intro m g m' g' hpre hag
  refine ⟨fun c i => Cert.KernelIdeal.aft m c (i 0).val 4 (i 1).val (i 2), ?_, ?_⟩
  · refine (θ_run Cert.KernelIdeal.defs _ _).mono (fun r h c => ⟨?_, (h.2.1 c)⟩)
      (θ_run_and (Cert.KernelIdeal.run_out (wts_real m hpre) g) (Cert.KernelIdeal.frame_run m g))
    funext i
    obtain ⟨b, t, d, rfl⟩ : ∃ (b : Fin 2) (t : Fin 2048) (d : Fin 1024), i = ix3 b t d := ⟨_, _, _, eq_ix3 i⟩
    exact h.1 c b t d
  · refine (θ_run Cert.ReferenceIdeal.defs _ _).mono (fun r h c => ⟨?_, (h.2 c).2⟩)
      (θ_run_and (Cert.ReferenceIdeal.run_out m' g') (Cert.ReferenceIdeal.Value.run m' g'))
    funext i
    obtain ⟨a0, a1, a2, a3, a4, a5, a6, a7, a8, a9⟩ := hag c
    have hw : Cert.ReferenceIdeal.rwts (StableHlo.launchContents m' c) = Cert.KernelIdeal.wts m c := by
      unfold Cert.KernelIdeal.wts
      rw [← a1, ← a2, ← a3, ← a4, ← a5, ← a6, ← a7, ← a8, ← a9]
      rfl
    have hx : ∀ b : Fin 2, Cert.Spec.seq (m' ((c.tc : Thread Cert.ReferenceIdeal.nD Cert.ReferenceIdeal.τ).loc Cert.ReferenceIdeal.main_arg0)) b
        = Cert.KernelIdeal.inp m c ⟨b.val % 2, Nat.mod_lt _ (by decide)⟩ := by
      intro b
      rw [show (⟨b.val % 2, Nat.mod_lt _ (by decide)⟩ : Fin 2) = b from Fin.ext (Nat.mod_eq_of_lt b.isLt)]
      unfold Cert.KernelIdeal.inp
      rw [← a0]
    obtain ⟨b, t, d, rfl⟩ : ∃ (b : Fin 2) (t : Fin 2048) (d : Fin 1024), i = ix3 b t d := ⟨_, _, _, eq_ix3 i⟩
    exact (h.1 c b t d).trans (congrFun (congrFun (congrArg₂ (fun W x => stack W x 4) hw (hx b)) t.val) d)

end Cert.Proof

end
-- ==== Proof.lean ====
/- The proof of the certificate: the three frames, the two frames under the precondition, that the idealized kernel is the
   kernel, and that the idealized kernel and the idealized reference end with the same array. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.KernelIdeal.Grid
public import proofs.«01_k».proof.Proof.Kernel.Grid
public import proofs.«01_k».proof.Proof.Gen.ReferenceIdeal.Run
public import proofs.«01_k».proof.Proof.Value
public import Idealize.ShloMosaic.Init

@[expose] public section

noncomputable section

namespace Cert.Proof

open Idealize.ShloMosaic Idealize.SL.Sem Cert.Kernel

/-- The reference runs, every argument array ends as it began, and every semaphore counter ends at zero: the first two
    are its generated run, the last because it declares no semaphore. -/
theorem frame_reference : Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Every claim of the certificate. -/
theorem claim : Cert.Claim :=
  ⟨Cert.Kernel.Gen.facts, Cert.KernelIdeal.Gen.facts, Cert.ReferenceIdeal.Gen.facts, Cert.Pre_finite_weights.facts,
    fun m g _ => Cert.Kernel.frame_run m g, fun m g _ => Cert.KernelIdeal.frame_run m g, fun m g _ => Cert.KernelIdeal.frame_run m g,
    frame_reference, fun m g _ => frame_reference m g trivial, trivial, value⟩

end Cert.Proof

end
